-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S1024x16 : Shape := ⟨2, ![1024, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S1024x1 : S_.BroadcastsInDim S1024x1 (![] : Fin 0 → Fin S1024x1.rank)
  natLt_1_32 : 1 < 32
  reducesTo_S1024x1_S_d0_1 : S1024x1.ReducesTo [0, 1] S_
  dot_S1024x512_S512x16_S1024x16_1_0_0_1_n_n_wf : DotDims.WF S1024x512 S512x16 S1024x16 [1] [0] [0] [1] [] []

variable [Facts]

def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def fn_part2 {F : FTy → Type} [FloatOps F] (main_arg2 : IVec S1024x1 32) (main_v31 : IVec S_ 1) (main_v32 : IVec S1024x1 32) : IVec S_ 1 :=
  let main_v33 : IVec S1024x1 1 := cmpi .sge main_arg2 main_v32
  let main_c_13 : IVec S_ 32 := constantI S_ 32 16#32
  let main_v34 : IVec S1024x1 32 := broadcastInDim S1024x1 ![] bcast_S_S1024x1 main_c_13
  let main_v35 : IVec S1024x1 1 := cmpi .slt main_arg2 main_v34
  let main_v36 : IVec S1024x1 1 := andi main_v33 main_v35
  let main_v37 : IVec S1024x1 32 := (extui 32 · natLt_1_32) main_v36
  let main_c_14 : IVec S_ 32 := constantI S_ 32 0#32
  let main_v38 : IVec S_ 32 := (fun x v => Host.reduce IntOp.addi x v reducesTo_S1024x1_S_d0_1 h_S_) main_v37 main_c_14
  let main_c_15 : IVec S_ 32 := constantI S_ 32 384#32
  let main_v39 : IVec S_ 1 := cmpi .sle main_v38 main_c_15
  let main_v40 : IVec S_ 1 := andi main_v31 main_v39
  main_v40

def fn_part1 {F : FTy → Type} [FloatOps F] (main_arg2 : IVec S1024x1 32) (main_v13 : IVec S_ 1) (main_v15 : IVec S1024x1 1) (main_c_5 : IVec S_ 32) : IVec S_ 1 :=
  let main_v16 : IVec S1024x1 32 := broadcastInDim S1024x1 ![] bcast_S_S1024x1 main_c_5
  let main_v17 : IVec S1024x1 1 := cmpi .slt main_arg2 main_v16
  let main_v18 : IVec S1024x1 1 := andi main_v15 main_v17
  let main_v19 : IVec S1024x1 32 := (extui 32 · natLt_1_32) main_v18
  let main_c_6 : IVec S_ 32 := constantI S_ 32 0#32
  let main_v20 : IVec S_ 32 := (fun x v => Host.reduce IntOp.addi x v reducesTo_S1024x1_S_d0_1 h_S_) main_v19 main_c_6
  let main_c_7 : IVec S_ 32 := constantI S_ 32 384#32
  let main_v21 : IVec S_ 1 := cmpi .sle main_v20 main_c_7
  let main_v22 : IVec S_ 1 := andi main_v13 main_v21
  let main_c_8 : IVec S_ 32 := constantI S_ 32 8#32
  let main_v23 : IVec S1024x1 32 := broadcastInDim S1024x1 ![] bcast_S_S1024x1 main_c_8
  let main_v24 : IVec S1024x1 1 := cmpi .sge main_arg2 main_v23
  let main_c_9 : IVec S_ 32 := constantI S_ 32 12#32
  let main_v25 : IVec S1024x1 32 := broadcastInDim S1024x1 ![] bcast_S_S1024x1 main_c_9
  let main_v26 : IVec S1024x1 1 := cmpi .slt main_arg2 main_v25
  let main_v27 : IVec S1024x1 1 := andi main_v24 main_v26
  let main_v28 : IVec S1024x1 32 := (extui 32 · natLt_1_32) main_v27
  let main_c_10 : IVec S_ 32 := constantI S_ 32 0#32
  let main_v29 : IVec S_ 32 := (fun x v => Host.reduce IntOp.addi x v reducesTo_S1024x1_S_d0_1 h_S_) main_v28 main_c_10
  let main_c_11 : IVec S_ 32 := constantI S_ 32 384#32
  let main_v30 : IVec S_ 1 := cmpi .sle main_v29 main_c_11
  let main_v31 : IVec S_ 1 := andi main_v22 main_v30
  let main_c_12 : IVec S_ 32 := constantI S_ 32 12#32
  let main_v32 : IVec S1024x1 32 := broadcastInDim S1024x1 ![] bcast_S_S1024x1 main_c_12
  fn_part2 (F := F) main_arg2 main_v31 main_v32

def fn {F : FTy → Type} [FloatOps F] (main_arg0 : FVec F S1024x512 .f32) (main_arg1 : FVec F S512x16 .f32) (main_arg2 : IVec S1024x1 32) (main_arg3 : FVec F S4x512x1024 .f32) (main_arg4 : FVec F S512x1024 .f32) : IVec S_ 1 :=
  let main_v0 : FVec F S1024x16 .f32 := (fun l r => Host.dotGeneral dot_S1024x512_S512x16_S1024x16_1_0_0_1_n_n none l r) main_arg0 main_arg1
  let main_v1 : FVec F S1024x16 .f32 := Host.absf main_v0
  let main_cst : FVec F S_ .f32 := constant S_ .f32 0x7F800000#32
  let main_v2 : FVec F S1024x16 .f32 := broadcastInDim S1024x16 ![] bcast_S_S1024x16 main_cst
  let main_v3 : IVec S1024x16 1 := cmpf .olt main_v1 main_v2
  let main_c : IVec S_ 1 := constantI S_ 1 1#1
  let main_v4 : IVec S_ 1 := (fun x v => Host.reduce IntOp.andi x v reducesTo_S1024x16_S_d0_1 h_S_) main_v3 main_c
  let main_c_0 : IVec S_ 32 := constantI S_ 32 0#32
  let main_v5 : IVec S1024x1 32 := broadcastInDim S1024x1 ![] bcast_S_S1024x1 main_c_0
  let main_v6 : IVec S1024x1 1 := cmpi .sge main_arg2 main_v5
  let main_c_1 : IVec S_ 32 := constantI S_ 32 4#32
  let main_v7 : IVec S1024x1 32 := broadcastInDim S1024x1 ![] bcast_S_S1024x1 main_c_1
  let main_v8 : IVec S1024x1 1 := cmpi .slt main_arg2 main_v7
  let main_v9 : IVec S1024x1 1 := andi main_v6 main_v8
  let main_v10 : IVec S1024x1 32 := (extui 32 · natLt_1_32) main_v9
  let main_c_2 : IVec S_ 32 := constantI S_ 32 0#32
  let main_v11 : IVec S_ 32 := (fun x v => Host.reduce IntOp.addi x v reducesTo_S1024x1_S_d0_1 h_S_) main_v10 main_c_2
  let main_c_3 : IVec S_ 32 := constantI S_ 32 384#32
  let main_v12 : IVec S_ 1 := cmpi .sle main_v11 main_c_3
  let main_v13 : IVec S_ 1 := andi main_v4 main_v12
  let main_c_4 : IVec S_ 32 := constantI S_ 32 4#32
  let main_v14 : IVec S1024x1 32 := broadcastInDim S1024x1 ![] bcast_S_S1024x1 main_c_4
  let main_v15 : IVec S1024x1 1 := cmpi .sge main_arg2 main_v14
  let main_c_5 : IVec S_ 32 := constantI S_ 32 8#32
  fn_part1 (F := F) main_arg2 main_v13 main_v15 main_c_5
-- ==== Pre_routable_ReferenceIdeal.lean ====
abbrev S4096x512 : Shape := ⟨2, ![4096, 512]⟩
abbrev S512x16 : Shape := ⟨2, ![512, 16]⟩
abbrev S4096x1 : Shape := ⟨2, ![4096, 1]⟩
abbrev S16x512x1024 : Shape := ⟨3, ![16, 512, 1024]⟩
abbrev S512x1024 : Shape := ⟨2, ![512, 1024]⟩
abbrev S4096x16 : Shape := ⟨2, ![4096, 16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S4096x1 : S_.BroadcastsInDim S4096x1 (![] : Fin 0 → Fin S4096x1.rank)
  natLt_1_32 : 1 < 32
  reducesTo_S4096x1_S_d0_1 : S4096x1.ReducesTo [0, 1] S_
  dot_S4096x512_S512x16_S4096x16_1_0_0_1_n_n_wf : DotDims.WF S4096x512 S512x16 S4096x16 [1] [0] [0] [1] [] []

variable [Facts]

def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf
def fn_part2 {F : FTy → Type} [FloatOps F] (main_arg2 : IVec S4096x1 32) (main_v31 : IVec S_ 1) (main_v32 : IVec S4096x1 32) : IVec S_ 1 :=
  let main_v33 : IVec S4096x1 1 := cmpi .sge main_arg2 main_v32
  let main_c_13 : IVec S_ 32 := constantI S_ 32 16#32
  let main_v34 : IVec S4096x1 32 := broadcastInDim S4096x1 ![] bcast_S_S4096x1 main_c_13
  let main_v35 : IVec S4096x1 1 := cmpi .slt main_arg2 main_v34
  let main_v36 : IVec S4096x1 1 := andi main_v33 main_v35
  let main_v37 : IVec S4096x1 32 := (extui 32 · natLt_1_32) main_v36
  let main_c_14 : IVec S_ 32 := constantI S_ 32 0#32
  let main_v38 : IVec S_ 32 := (fun x v => Host.reduce IntOp.addi x v reducesTo_S4096x1_S_d0_1 h_S_) main_v37 main_c_14
  let main_c_15 : IVec S_ 32 := constantI S_ 32 384#32
  let main_v39 : IVec S_ 1 := cmpi .sle main_v38 main_c_15
  let main_v40 : IVec S_ 1 := andi main_v31 main_v39
  main_v40

def fn_part1 {F : FTy → Type} [FloatOps F] (main_arg2 : IVec S4096x1 32) (main_v13 : IVec S_ 1) (main_v15 : IVec S4096x1 1) (main_c_5 : IVec S_ 32) : IVec S_ 1 :=
  let main_v16 : IVec S4096x1 32 := broadcastInDim S4096x1 ![] bcast_S_S4096x1 main_c_5
  let main_v17 : IVec S4096x1 1 := cmpi .slt main_arg2 main_v16
  let main_v18 : IVec S4096x1 1 := andi main_v15 main_v17
  let main_v19 : IVec S4096x1 32 := (extui 32 · natLt_1_32) main_v18
  let main_c_6 : IVec S_ 32 := constantI S_ 32 0#32
  let main_v20 : IVec S_ 32 := (fun x v => Host.reduce IntOp.addi x v reducesTo_S4096x1_S_d0_1 h_S_) main_v19 main_c_6
  let main_c_7 : IVec S_ 32 := constantI S_ 32 384#32
  let main_v21 : IVec S_ 1 := cmpi .sle main_v20 main_c_7
  let main_v22 : IVec S_ 1 := andi main_v13 main_v21
  let main_c_8 : IVec S_ 32 := constantI S_ 32 8#32
  let main_v23 : IVec S4096x1 32 := broadcastInDim S4096x1 ![] bcast_S_S4096x1 main_c_8
  let main_v24 : IVec S4096x1 1 := cmpi .sge main_arg2 main_v23
  let main_c_9 : IVec S_ 32 := constantI S_ 32 12#32
  let main_v25 : IVec S4096x1 32 := broadcastInDim S4096x1 ![] bcast_S_S4096x1 main_c_9
  let main_v26 : IVec S4096x1 1 := cmpi .slt main_arg2 main_v25
  let main_v27 : IVec S4096x1 1 := andi main_v24 main_v26
  let main_v28 : IVec S4096x1 32 := (extui 32 · natLt_1_32) main_v27
  let main_c_10 : IVec S_ 32 := constantI S_ 32 0#32
  let main_v29 : IVec S_ 32 := (fun x v => Host.reduce IntOp.addi x v reducesTo_S4096x1_S_d0_1 h_S_) main_v28 main_c_10
  let main_c_11 : IVec S_ 32 := constantI S_ 32 384#32
  let main_v30 : IVec S_ 1 := cmpi .sle main_v29 main_c_11
  let main_v31 : IVec S_ 1 := andi main_v22 main_v30
  let main_c_12 : IVec S_ 32 := constantI S_ 32 12#32
  let main_v32 : IVec S4096x1 32 := broadcastInDim S4096x1 ![] bcast_S_S4096x1 main_c_12
  fn_part2 (F := F) main_arg2 main_v31 main_v32

def fn {F : FTy → Type} [FloatOps F] (main_arg0 : FVec F S4096x512 .f32) (main_arg1 : FVec F S512x16 .f32) (main_arg2 : IVec S4096x1 32) (main_arg3 : FVec F S16x512x1024 .f32) (main_arg4 : FVec F S512x1024 .f32) : IVec S_ 1 :=
  let main_v0 : FVec F S4096x16 .f32 := (fun l r => Host.dotGeneral dot_S4096x512_S512x16_S4096x16_1_0_0_1_n_n none l r) main_arg0 main_arg1
  let main_v1 : FVec F S4096x16 .f32 := Host.absf main_v0
  let main_cst : FVec F S_ .f32 := constant S_ .f32 0x7F800000#32
  let main_v2 : FVec F S4096x16 .f32 := broadcastInDim S4096x16 ![] bcast_S_S4096x16 main_cst
  let main_v3 : IVec S4096x16 1 := cmpf .olt main_v1 main_v2
  let main_c : IVec S_ 1 := constantI S_ 1 1#1
  let main_v4 : IVec S_ 1 := (fun x v => Host.reduce IntOp.andi x v reducesTo_S4096x16_S_d0_1 h_S_) main_v3 main_c
  let main_c_0 : IVec S_ 32 := constantI S_ 32 0#32
  let main_v5 : IVec S4096x1 32 := broadcastInDim S4096x1 ![] bcast_S_S4096x1 main_c_0
  let main_v6 : IVec S4096x1 1 := cmpi .sge main_arg2 main_v5
  let main_c_1 : IVec S_ 32 := constantI S_ 32 4#32
  let main_v7 : IVec S4096x1 32 := broadcastInDim S4096x1 ![] bcast_S_S4096x1 main_c_1
  let main_v8 : IVec S4096x1 1 := cmpi .slt main_arg2 main_v7
  let main_v9 : IVec S4096x1 1 := andi main_v6 main_v8
  let main_v10 : IVec S4096x1 32 := (extui 32 · natLt_1_32) main_v9
  let main_c_2 : IVec S_ 32 := constantI S_ 32 0#32
  let main_v11 : IVec S_ 32 := (fun x v => Host.reduce IntOp.addi x v reducesTo_S4096x1_S_d0_1 h_S_) main_v10 main_c_2
  let main_c_3 : IVec S_ 32 := constantI S_ 32 384#32
  let main_v12 : IVec S_ 1 := cmpi .sle main_v11 main_c_3
  let main_v13 : IVec S_ 1 := andi main_v4 main_v12
  let main_c_4 : IVec S_ 32 := constantI S_ 32 4#32
  let main_v14 : IVec S4096x1 32 := broadcastInDim S4096x1 ![] bcast_S_S4096x1 main_c_4
  let main_v15 : IVec S4096x1 1 := cmpi .sge main_arg2 main_v14
  let main_c_5 : IVec S_ 32 := constantI S_ 32 8#32
  fn_part1 (F := F) main_arg2 main_v13 main_v15 main_c_5
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S4x1024x384 : Shape := ⟨3, ![4, 1024, 384]⟩
abbrev S4x384x528 : Shape := ⟨3, ![4, 384, 528]⟩
abbrev S3x384x528 : Shape := ⟨3, ![3, 384, 528]⟩
abbrev S4x384x1024 : Shape := ⟨3, ![4, 384, 1024]⟩
abbrev S3x384x1024 : Shape := ⟨3, ![3, 384, 1024]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x14 : Shape := ⟨2, ![1024, 14]⟩
abbrev S1024x528 : Shape := ⟨2, ![1024, 528]⟩
abbrev S1024x4 : Shape := ⟨2, ![1024, 4]⟩
abbrev S1024x384 : Shape := ⟨2, ![1024, 384]⟩
abbrev S1x1024x384 : Shape := ⟨3, ![1, 1024, 384]⟩
abbrev S384x528 : Shape := ⟨2, ![384, 528]⟩
abbrev S1x384x528 : Shape := ⟨3, ![1, 384, 528]⟩
abbrev S1 : Shape := ⟨1, ![1]⟩
abbrev S384x512 : Shape := ⟨2, ![384, 512]⟩
abbrev S384x1 : Shape := ⟨2, ![384, 1]⟩
abbrev S1x512x1024 : Shape := ⟨3, ![1, 512, 1024]⟩
abbrev S384x1024 : Shape := ⟨2, ![384, 1024]⟩
abbrev S1x384x1024 : Shape := ⟨3, ![1, 384, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1024x1024, .f32⟩
  | .local _ .vmem, ⟨0, _⟩ => ⟨S1024x512, .f32⟩
  | .local _ .vmem, ⟨1, _⟩ => ⟨S512x16, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S4x1024x384, .f32⟩
  | .local _ .vmem, ⟨7, _⟩ => ⟨S4x384x528, .bf16⟩
  | .local _ .vmem, ⟨8, _⟩ => ⟨S3x384x528, .bf16⟩
  | .local _ .vmem, ⟨9, _⟩ => ⟨S4x384x1024, .bf16⟩
  | .local _ .vmem, ⟨10, _⟩ => ⟨S3x384x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v107 : BitVec 32 := Scalar.addi v2 c1_i32_44
  let c4_i32_45 : BitVec 32 := 4#32
  let v108 : BitVec 32 := Scalar.remsi v107 c4_i32_45
  let c1_i32_50 : BitVec 32 := 1#32
  let v109 : BitVec 32 := Scalar.muli v108 c1_i32_50
  let v110 : BitVec 32 := Scalar.addi c0_i32_51 v109
  v110.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v139 : BitVec 32 := Scalar.addi v2 c2_i32_65
  let c4_i32_66 : BitVec 32 := 4#32
  let v140 : BitVec 32 := Scalar.remsi v139 c4_i32_66
  let c1_i32_71 : BitVec 32 := 1#32
  let v141 : BitVec 32 := Scalar.muli v140 c1_i32_71
  let v142 : BitVec 32 := Scalar.addi c0_i32_72 v141
  v142.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_86 : BitVec 32 := 3#32
  let v171 : BitVec 32 := Scalar.addi v2 c3_i32_86
  let c4_i32_87 : BitVec 32 := 4#32
  let v172 : BitVec 32 := Scalar.remsi v171 c4_i32_87
  let c1_i32_92 : BitVec 32 := 1#32
  let v173 : BitVec 32 := Scalar.muli v172 c1_i32_92
  let v174 : BitVec 32 := Scalar.addi c0_i32_93 v173
  v174.toNat
def k0_dev7 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_211 : BitVec 32 := 4#32
  let v357 : BitVec 32 := Scalar.addi v2 c4_i32_211
  let c1_i32_212 : BitVec 32 := 1#32
  let v358 : BitVec 32 := Scalar.subi v357 c1_i32_212
  let c4_i32_213 : BitVec 32 := 4#32
  let v359 : BitVec 32 := Scalar.remsi v358 c4_i32_213
  let c1_i32_218 : BitVec 32 := 1#32
  let v360 : BitVec 32 := Scalar.muli v359 c1_i32_218
  let v361 : BitVec 32 := Scalar.addi c0_i32_219 v360
  v361.toNat
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_277 : BitVec 32 := 4#32
  let v447 : BitVec 32 := Scalar.addi v2 c4_i32_277
  let c2_i32_278 : BitVec 32 := 2#32
  let v448 : BitVec 32 := Scalar.subi v447 c2_i32_278
  let c4_i32_279 : BitVec 32 := 4#32
  let v449 : BitVec 32 := Scalar.remsi v448 c4_i32_279
  let c1_i32_284 : BitVec 32 := 1#32
  let v450 : BitVec 32 := Scalar.muli v449 c1_i32_284
  let v451 : BitVec 32 := Scalar.addi c0_i32_285 v450
  v451.toNat
def k0_dev9 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_343 : BitVec 32 := 4#32
  let v537 : BitVec 32 := Scalar.addi v2 c4_i32_343
  let c3_i32_344 : BitVec 32 := 3#32
  let v538 : BitVec 32 := Scalar.subi v537 c3_i32_344
  let c4_i32_345 : BitVec 32 := 4#32
  let v539 : BitVec 32 := Scalar.remsi v538 c4_i32_345
  let c1_i32_350 : BitVec 32 := 1#32
  let v540 : BitVec 32 := Scalar.muli v539 c1_i32_350
  let v541 : BitVec 32 := Scalar.addi c0_i32_351 v540
  v541.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x512 : Shape := ⟨2, ![4096, 512]⟩
abbrev S512x16 : Shape := ⟨2, ![512, 16]⟩
abbrev S4096x1 : Shape := ⟨2, ![4096, 1]⟩
abbrev S16x512x1024 : Shape := ⟨3, ![16, 512, 1024]⟩
abbrev S512x1024 : Shape := ⟨2, ![512, 1024]⟩
abbrev S4096x16 : Shape := ⟨2, ![4096, 16]⟩
abbrev S_ : Shape := ⟨0, ![]⟩
abbrev S4096 : Shape := ⟨1, ![4096]⟩
abbrev S4096x1024 : Shape := ⟨2, ![4096, 1024]⟩
abbrev S16 : Shape := ⟨1, ![16]⟩
abbrev S1x16 : Shape := ⟨2, ![1, 16]⟩
abbrev S4096x16x1024 : Shape := ⟨3, ![4096, 16, 1024]⟩
abbrev S4096x16x1 : Shape := ⟨3, ![4096, 16, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16, .f32⟩
  | .hbm, ⟨2, _⟩ => ⟨S4096x1, .i32⟩
  | .hbm, ⟨3, _⟩ => ⟨S16x512x1024, .f32⟩
  | .hbm, ⟨4, _⟩ => ⟨S512x1024, .f32⟩
  | .hbm, ⟨5, _⟩ => ⟨S4096x16, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x16, .f32⟩
  | .hbm, ⟨16, _⟩ => ⟨S4096x16, .f32⟩
  | .hbm, ⟨17, _⟩ => ⟨S4096x1024, .f32⟩
  | .hbm, ⟨18, _⟩ => ⟨S16, .i32⟩
  | .hbm, ⟨19, _⟩ => ⟨S1x16, .i32⟩
  | .hbm, ⟨20, _⟩ => ⟨S4096x16, .i32⟩
  | .hbm, ⟨21, _⟩ => ⟨S4096x16, .i32⟩
  | .hbm, ⟨22, _⟩ => ⟨S4096x16, .i1⟩
  | .hbm, ⟨23, _⟩ => ⟨S_, .f32⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S4096x16x1024, .f32⟩
  | .hbm, ⟨28, _⟩ => ⟨S4096x16x1, .f32⟩
  | .hbm, ⟨29, _⟩ => ⟨S4096x16x1024, .f32⟩
  | .hbm, ⟨30, _⟩ => ⟨S4096x16x1024, .f32⟩
  | .hbm, ⟨31, _⟩ => ⟨S_, .f32⟩
  | .hbm, ⟨32, _⟩ => ⟨S4096x1024, .f32⟩
  | .hbm, ⟨33, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Slots.lean ====
/-
# Slots: the effects of a kernel body on a slice of a buffer, stated on ownership of the slice

A buffer cut into slots is owned slot by slot (`owns c (m.slice r hr) q X`: core `c` owns the elements under the
rectangle `r` of the memref `m`, and reads `X` there). The lemmas below state a load, a store and an addressed
transfer on such ownership: the load continues at the slot's contents, the store leaves what was stored, the
transfer hands the target's slot over holding what the source slot held. `owns_squeeze` and `owns_unsqueeze` pass
between a slot and the same slot with its unit axis dropped, as the transfers address it.
-/
module

public import Idealize.ShloMosaic.Lib.Pipeline.Launch
public import Idealize.ShloMosaic.Lib.Pipeline.Kit
public import Idealize.ShloMosaic.Lib.Tactic

@[expose] public section

noncomputable section

namespace Cert.Slots

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

/-! ## A slot with and without its unit axis -/

/-- The slot's elements are the same with and without the unit axis. -/
theorem pts_squeeze (c : Thread nD τ) {sp : Space} {s s' : Shape} {e : EltTy} (m : Memref sig c.2.kind sp s e)
    (h : s.Squeezes s') (q : PosShare TreeShare) (f : m.view.ty.Contents Val) :
    (m.view.loc c ↦[m.view.set]{q} f : sProp 𝕄) ⊢ ((m.squeeze s' h).view.loc c ↦[(m.squeeze s' h).view.set]{q} f) := by
  have hs : (m.squeeze s' h).view.set = m.view.set := View.set_reshape _ _
  exact Entails.of_eq (congrArg (fun S => (m.view.loc c ↦[S]{q} f : sProp 𝕄)) hs.symm)

theorem pts_unsqueeze (c : Thread nD τ) {sp : Space} {s s' : Shape} {e : EltTy} (m : Memref sig c.2.kind sp s e)
    (h : s.Squeezes s') (q : PosShare TreeShare) (f : m.view.ty.Contents Val) :
    ((m.squeeze s' h).view.loc c ↦[(m.squeeze s' h).view.set]{q} f : sProp 𝕄) ⊢ (m.view.loc c ↦[m.view.set]{q} f) := by
  have hs : (m.squeeze s' h).view.set = m.view.set := View.set_reshape _ _
  exact Entails.of_eq (congrArg (fun S => (m.view.loc c ↦[S]{q} f : sProp 𝕄)) hs)

/-- A slot owned at `X` is the slot with its unit axis dropped owned at `X` cast to that shape; -/
theorem owns_squeeze (c : Thread nD τ) {sp : Space} {s s' : Shape} {e : EltTy} (m : Memref sig c.2.kind sp s e)
    (h : s.Squeezes s') (hc : s.ShapeCasts s') (q : PosShare TreeShare) (X : s.Idx → Val e) :
    (owns c m q X : sProp 𝕄) ⊢ owns c (m.squeeze s' h) q (shapeCast s' X hc) := by
  unfold owns
  iintro ⟨%f, %hf, H⟩
  iexists f
  isplitr
  · ipureintro; subst hf; rfl
  iapply (pts_squeeze c m h q f); iexact H

/-- and back. -/
theorem owns_unsqueeze (c : Thread nD τ) {sp : Space} {s s' : Shape} {e : EltTy} (m : Memref sig c.2.kind sp s e)
    (h : s.Squeezes s') (hc : s.ShapeCasts s') (q : PosShare TreeShare) (X : s.Idx → Val e) :
    (owns c (m.squeeze s' h) q (shapeCast s' X hc) : sProp 𝕄) ⊢ owns c m q X := by
  unfold owns
  iintro ⟨%f, %hf, H⟩
  iexists f
  isplitr
  · ipureintro
    funext i
    have := congrFun hf ((Shape.reshapeEquiv h.numel_eq).symm i)
    have h1 : (m.squeeze s' h).view.read Val f ((Shape.reshapeEquiv h.numel_eq).symm i) = m.view.read Val f i := by
      show m.view.read Val f (Shape.reshapeEquiv h.numel_eq ((Shape.reshapeEquiv h.numel_eq).symm i)) = _
      rw [Equiv.apply_symm_apply]
    have h2 : shapeCast s' X hc ((Shape.reshapeEquiv h.numel_eq).symm i) = X i := by
      show X (Shape.reshapeEquiv h.numel_eq ((Shape.reshapeEquiv h.numel_eq).symm i)) = _
      rw [Equiv.apply_symm_apply]
    rw [← h1, this, h2]
  iapply (pts_unsqueeze c m h q f); iexact H

/-! ## Loads, stores and transfers -/

section Rules
variable [Preorder Lvl] {defs : Defs nD τ sig Val Λ} (𝒱 : Variants) (c : Thread nD τ) (bd : Option 𝒱.V) (Es : Set Name)
variable {α : Type}

/-- A load of a slot continues at what the slot holds. -/
theorem wp_load_slot {cs : CoreSpace} {s : Shape} {e : EltTy} (m : Memref sig c.2.kind cs s e) (r : Rect s) (hr : ∀ a, r.stride a = 1)
    {hl : m.view.LoadsAt r.toLoadRect} {k : (r.shape.Idx → Val e) → Prog (TpuEff nD τ sig Val Λ c.2) α} {Q : α → sProp 𝕄} {q : PosShare TreeShare} {X : r.shape.Idx → Val e} :
    (owns c (m.slice r hr) q X : sProp 𝕄)
      ⊢ iprop((owns c (m.slice r hr) q X -∗ wp frame (wpE defs 𝒱 c bd) Es (k X) Q)
        -∗ wp frame (wpE defs 𝒱 c bd) Es (.op (.load m r.toLoadRect hl) k) Q) := by
  unfold owns
  iintro ⟨%f, %hf, H⟩ Hk
  subst hf
  iapply (wp_load_rect 𝒱 c bd Es (m := m) (r := r) (S := (m.access r).set) (q := q) (f := f) (Finset.Subset.refl _)) $$ H
  iintro H
  iapply Hk
  iexists f
  isplitr; · ipureintro; rfl
  iexact H

/-- A store over a slot leaves it holding what was stored. -/
theorem wp_store_slot {cs : CoreSpace} {s : Shape} {e : EltTy} (m : Memref sig c.2.kind cs s e) (r : Rect s) (hr : ∀ a, r.stride a = 1)
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {Q : α → sProp 𝕄} {X : r.shape.Idx → Val e} :
    (owns c (m.slice r hr) fullShare X : sProp 𝕄)
      ⊢ iprop((owns c (m.slice r hr) fullShare w -∗ wp frame (wpE defs 𝒱 c bd) Es (k ⟨⟩) Q)
        -∗ wp frame (wpE defs 𝒱 c bd) Es (.op (.store m r w Finset.univ hx hm) k) Q) := by
  unfold owns
  iintro ⟨%f, %hf, H⟩ Hk
  iapply (wp_store 𝒱 c bd Es (m := m) (r := r) (w := w) (Mk := Finset.univ) (S := (m.access r).set) (f := f) (hx := hx) (hm := hm) (Finset.Subset.refl _)) $$ H
  iintro H
  iapply Hk
  iexists _
  isplitr
  swap; · iexact H
  ipureintro
  exact View.read_write_univ (v := m.access r) _ _

/-- An addressed transfer of a slot into a slot of the target's that the issuer holds: the two duties are paid by the
    source slot as it was and the target's slot holding what the source holds. -/
theorem wp_send_slot (E : Emb (URounds (GSem nD τ sig) D) 𝕄) (Rd : Schedule (GSem nD τ sig) D 𝕄) [Infinite Name]
    [E.LandsIn (upEmb : UEmb _ 𝕄)] [∀ g r d, BI.Storable (upEmb : UEmb _ 𝕄) (Rd.payload g r d)]
    {sp sp' : Space} {s : Shape} {e : EltTy}
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {Q : α → sProp 𝕄} {q : PosShare TreeShare} {X Y : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : owns c' dst fullShare X ⊢ Rd.payload (c', sem) r₂ d₂) (hr : τ.routes c c' = true := by routes) :
    iprop(cellInv E Rd κ₁ (c, sS) ∗ cellInv E Rd κ₂ (c', sem) ∗ owns c src q X ∗ owns c' dst fullShare Y
        ∗ owes c O₀ W ∗ dutyTok E (c, sS) r₁ d₁ ∗ reached E (c, sS) r₁ ∗ dutyTok E (c', sem) r₂ d₂ ∗ reached E (c', sem) r₂)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨H1, H2, Hs, Hd, HO, Ht1, Hr1, Ht2, Hr2⟩
  ihave Hs' := (show (owns c src q X : sProp 𝕄) ⊢ iprop(∃ f, ⌜src.view.read Val f = X⌝ ∗ (src.view.loc c ↦[src.view.set]{q} f)) from .rfl) $$ Hs
  ihave Hd' := (show (owns c' dst fullShare Y : sProp 𝕄) ⊢ iprop(∃ f, ⌜dst.view.read Val f = Y⌝ ∗ (dst.view.loc c' ↦[dst.view.set]{fullShare} f)) from .rfl) $$ Hd
  icases Hs' with ⟨%f, %hf, Hs⟩
  icases Hd' with ⟨%g, %hg, Hd⟩
  iapply (wp_send_pointsTo 𝒱 E Rd c bd (κ₁ := κ₁) (κ₂ := κ₂) (fs := f) (fd := g) (q := q) hd₁ hd₂ ι ι' N hN hk₁ hk₂ O hO (W := W)
    (by
      refine BIBase.Entails.trans ?_ hpay₁
      unfold owns
      iintro H
      iexists f
      isplitr; · ipureintro; exact hf
      iexact H)
    (by
      refine BIBase.Entails.trans ?_ hpay₂
      unfold owns
      iintro H
      iexists _
      isplitr
      swap; · iexact H
      ipureintro
      rw [View.read_write_univ]; exact hf) hr)
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Rules

end Cert.Slots

end
-- ==== Proof.Cut.lean ====
/-
# Cut: a buffer is its slots

A buffer cut into `n` pieces (`cut_eq`): to own all of it at some contents is to own each piece at some contents.
-/
module

public import proofs.«01_k».proof.Proof.Slots

@[expose] public section

noncomputable section

namespace Cert.Slots

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
  {U : Type} [URA U] {Lvl : Type} [∀ e, Nonempty (Val e)]

/-- Owning a memref at some contents is owning each of its pieces at some contents: `k` says which piece an index is in. -/
theorem cut_eq {n : ℕ} (c : Thread nD τ) {sp : Space} {s : Shape} {e : EltTy} (m : Memref sig c.2.kind sp s e) (q : PosShare TreeShare)
    (r : Fin n → Rect s) (hr : ∀ t a, (r t).stride a = 1) (k : s.Idx → Fin n) (hk : ∀ t j, k ((r t).emb j) = t)
    (hc : ∀ i, ∃ j, (r (k i)).emb j = i) :
    (iprop(∃ X, owns c m q X) : sProp (MT nD τ sig Ix Val Name U Lvl))
      = bigSep Finset.univ fun t => iprop(∃ X, owns c (m.slice (r t) (hr t)) q X) := by
  have hmem : ∀ t i, i ∈ (r t).set → k i = t := fun t i hi => by
    rw [← Rect.map_emb_univ, Finset.mem_map] at hi
    obtain ⟨j, -, rfl⟩ := hi
    exact hk t j
  have hd : ∀ t t', t ≠ t' → Disjoint (r t).set (r t').set := fun t t' ht =>
    Finset.disjoint_left.mpr fun i hi hi' => ht ((hmem t i hi).symm.trans (hmem t' i hi'))
  have hcov : (Finset.univ : Finset (Fin n)).biUnion (fun t => (r t).set) = Finset.univ := by
    refine Finset.eq_univ_iff_forall.mpr fun i => Finset.mem_biUnion.mpr ⟨k i, Finset.mem_univ _, ?_⟩
    obtain ⟨j, hj⟩ := hc i
    have hm := Finset.mem_map_of_mem (r (k i)).emb (Finset.mem_univ j)
    rw [hj, Rect.map_emb_univ] at hm
    exact hm
  refine BI.equiv_iff.mp ⟨?_, ?_⟩
  · show iprop(∃ X, owns c m q X) ⊢ _
    iintro ⟨%X, H⟩
    ihave H := (owns_rects c m q r hr hd hcov X) $$ H
    have h : (bigSep Finset.univ fun t => owns c (m.slice (r t) (hr t)) q (fun j => X ((r t).emb j)) : sProp (MT nD τ sig Ix Val Name U Lvl))
        ⊢ bigSep Finset.univ fun t => iprop(∃ X, owns c (m.slice (r t) (hr t)) q X) :=
      bigSep_mono fun t _ => show (owns c (m.slice (r t) (hr t)) q (fun j => X ((r t).emb j)) : sProp (MT nD τ sig Ix Val Name U Lvl))
          ⊢ iprop(∃ X, owns c (m.slice (r t) (hr t)) q X) from by iintro H; iexists _; iexact H
    iapply h; iexact H
  · show (bigSep Finset.univ fun t => iprop(∃ X, owns c (m.slice (r t) (hr t)) q X) : sProp (MT nD τ sig Ix Val Name U Lvl)) ⊢ iprop(∃ X, owns c m q X)
    iintro H
    ihave H := (BI.bigSep_exists_pi Finset.univ (fun t (X : (r t).shape.Idx → Val e) => (owns c (m.slice (r t) (hr t)) q X : sProp (MT nD τ sig Ix Val Name U Lvl)))) $$ H
    icases H with ⟨%Xs, H⟩
    have hX : ∀ i t j, (r t).emb j = i → Xs (k i) (hc i).choose = Xs t j := fun i t j h => by
      have hki : k i = t := (congrArg k h).symm.trans (hk t j)
      subst hki
      exact congrArg (Xs (k i)) ((r (k i)).emb.injective ((hc i).choose_spec.trans h.symm))
    obtain ⟨X, hX'⟩ : ∃ X : s.Idx → Val e, ∀ t j, X ((r t).emb j) = Xs t j := ⟨fun i => Xs (k i) (hc i).choose, fun t j => hX _ t j rfl⟩
    have hX'' : ∀ t, Xs t = fun j => X ((r t).emb j) := fun t => funext fun j => (hX' t j).symm
    iexists X
    have h : (bigSep Finset.univ fun t => owns c (m.slice (r t) (hr t)) q (Xs t) : sProp (MT nD τ sig Ix Val Name U Lvl)) ⊢ owns c m q X := by
      simp only [hX'']
      exact owns_of_rects c m q r hr hd hcov X
    iapply h; iexact H

end Cert.Slots

end
-- ==== Proof.KernelIdeal.Vals.lean ====
/-
# Vals: what every buffer of the mixture-of-experts kernel holds, device by device

The contents as compositions of the kernel's own computations (`k0_payN` of the skeleton), from the five argument
blocks of every device (`Ins`). Device `c` addresses the device `r + 1` ahead of it (`sh r c`, `r = 0, 1, 2`); the
device for which `c` is `r + 1` ahead is `sh r.rev c` (`sh_rev`, `rev_sh`).
-/
module

public import proofs.«01_k».proof.Proof.Gen.KernelIdeal
public import proofs.«01_k».proof.Proof.Gen.KernelIdeal.Skeleton

@[expose] public section

noncomputable section

namespace Cert.KernelIdeal.Moe

open Cert.KernelIdeal Cert.KernelIdeal.Gen
open Idealize.ShloMosaic Idealize.ShloMosaic.TcCoe

variable {F : FTy → Type} [FloatOps F]

/-! ## The mesh -/

set_option backward.proofsInPublic true in
/-- The device `r + 1` ahead of `c` on the ring of four. -/
def sh (r : Fin 3) (c : Dev nD) : Dev nD := ⟨(c.val + (r.val + 1)) % 4, Nat.mod_lt _ (by decide)⟩

theorem sh_rev (r : Fin 3) (c : Dev nD) : sh r.rev (sh r c) = c := by revert r c; decide
theorem rev_sh (r : Fin 3) (c : Dev nD) : sh r (sh r.rev c) = c := by revert r c; decide

/-- Going `r + 1` ahead is a permutation of the devices. -/
def ring (r : Fin 3) : Dev nD ≃ Dev nD := ⟨sh r, sh r.rev, sh_rev r, rev_sh r⟩

theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 0 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 2 c := Fin.ext (k0_dev6_eq c)
theorem dev7_eq (c : Dev nD) : (⟨k0_dev7 c, k0_dev7_lt c⟩ : Dev nD) = sh 2 c := Fin.ext (k0_dev7_eq c)
theorem dev8_eq (c : Dev nD) : (⟨k0_dev8 c, k0_dev8_lt c⟩ : Dev nD) = sh 1 c := Fin.ext (k0_dev8_eq c)
theorem dev9_eq (c : Dev nD) : (⟨k0_dev9 c, k0_dev9_lt c⟩ : Dev nD) = sh 0 c := Fin.ext (k0_dev9_eq c)

/-- The device's number on the mesh axis, as the kernel computes it from its device id. -/
def me (c : Dev nD) : BitVec 32 := Scalar.remsi (Scalar.divsi (Dev.word c) 1#32) 4#32

/-! ## The argument blocks -/

/-- Every device's five argument blocks: tokens, router weights, routes, its experts' weights, the shared weights. -/
structure Ins (F : FTy → Type) where
  x : Dev nD → Vec F S1024x512 .f32
  rw : Dev nD → Vec F S512x16 .f32
  ri : Dev nD → Vec F S1024x1 .i32
  ew : Dev nD → Vec F S4x512x1024 .f32
  sw : Dev nD → Vec F S512x1024 .f32

variable (I : Ins F)

/-- Expert `j`'s weights of a device's block of four, as a load reads them. -/
def wt (j : Fin 4) (c : Dev nD) : Vec F S1x512x1024 .f32 := fun i =>
  I.ew c ((Rect.unit (s := S4x512x1024) ![j.val, 0, 0] S1x512x1024.size (by intro a; fin_cases a <;> simp [S4x512x1024, S1x512x1024] <;> omega)).toLoadRect.idx i)

/-! ## Dispatch: the payload rows, the one-hot matrices, the slots sent -/

/-- The rows a device packs: token, gate, route, padding. -/
def pl (c : Dev nD) : FVec F S1024x528 .f32 := k0_pay5 (k0_pay2 (I.x c)) (k0_pay3 (I.x c) (I.rw c)) (k0_pay4 (I.x c) (I.rw c)) (I.ri c) (I.ri c)
/-- Each token's destination device; the devices in sending order. -/
def dest (c : Dev nD) : IVec S1024x1 32 := k0_pay6 (F := F) (I.ri c)
def order (c : Dev nD) : IVec S1024x4 32 := k0_pay7 (me c)
/-- Which tokens go to each device, and the place each takes there. -/
def hit (c : Dev nD) : FVec F S1024x4 .f32 := k0_pay8 (dest I c) (order c)
def rank (c : Dev nD) : FVec F S1024x4 .f32 := k0_pay9 (dest I c) (order c)
def places : IVec S1024x384 32 := iota .tc S1024x384 32 [1] iota_S1024x384_d1_w32

/-- The one-hot matrix token → place, for the device itself (`0`) and the three it sends to. -/
def oh0 (c : Dev nD) : Vec F S1x1024x384 .f32 := k0_pay20 (hit I c) (rank I c) places
def oh1 (c : Dev nD) : Vec F S1x1024x384 .f32 := k0_pay11 (dest I c) (order c)
def oh2 (c : Dev nD) : Vec F S1x1024x384 .f32 := k0_pay14 (hit I c) (rank I c) places
def oh3 (c : Dev nD) : Vec F S1x1024x384 .f32 := k0_pay17 (hit I c) (rank I c) places

/-- The rows packed for each of them. -/
def ps0 (c : Dev nD) : Vec F S1x384x528 .bf16 := k0_pay21 (pl I c) (hit I c) (rank I c) places
def ps1 (c : Dev nD) : Vec F S1x384x528 .bf16 := k0_pay12 (pl I c) (dest I c) (order c)
def ps2 (c : Dev nD) : Vec F S1x384x528 .bf16 := k0_pay15 (pl I c) (hit I c) (rank I c) places
def ps3 (c : Dev nD) : Vec F S1x384x528 .bf16 := k0_pay18 (pl I c) (hit I c) (rank I c) places

/-- What a device sends `r + 1` ahead. -/
def psr (r : Fin 3) (c : Dev nD) : Vec F S1x384x528 .bf16 := match r with | 0 => ps1 I c | 1 => ps2 I c | 2 => ps3 I c

/-! ## The experts: the rows computed for each sender -/

/-- Device `c`'s experts on rows `p`, as the kernel computes it for its own rows -/
def ys0 (c : Dev nD) : Vec F S1x384x1024 .bf16 :=
  k0_pay29
    (k0_pay27 (me c) (k0_pay23 (ps0 I c)) (k0_pay24 (ps0 I c)) (k0_pay25 (ps0 I c)) (k0_pay26 (me c) (ps0 I c)) (wt I 0 c) (wt I 1 c) (wt I 2 c))
    (k0_pay28 (me c) (k0_pay23 (ps0 I c)) (k0_pay24 (ps0 I c)) (k0_pay25 (ps0 I c))) (wt I 3 c)
/-- and for those arriving from the device one behind, -/
def ys1 (c : Dev nD) : Vec F S1x384x1024 .bf16 :=
  let p := psr I 0 (sh 2 c)
  k0_pay38 (me c) (k0_pay33 p) (k0_pay34 p) (k0_pay35 p) (k0_pay36 (me c) p (wt I 0 c)) (k0_pay37 (me c) p) (wt I 1 c) (wt I 2 c) (wt I 3 c)
/-- two behind, -/
def ys2 (c : Dev nD) : Vec F S1x384x1024 .bf16 :=
  let p := psr I 1 (sh 1 c)
  k0_pay45 (me c) (k0_pay40 p) (k0_pay41 p) (k0_pay42 p) (k0_pay43 (me c) p (wt I 0 c) (wt I 1 c)) (k0_pay44 (me c) p) (wt I 2 c) (wt I 3 c)
/-- three behind. -/
def ys3 (c : Dev nD) : Vec F S1x384x1024 .bf16 :=
  let p := psr I 2 (sh 0 c)
  k0_pay53 (k0_pay47 p) (k0_pay48 p)
    (k0_pay51 (me c) (k0_pay47 p) (k0_pay48 p) (k0_pay49 p) (k0_pay50 (F := F) (me c)) (wt I 0 c) (wt I 1 c) (wt I 2 c))
    (k0_pay52 (me c) (k0_pay49 p)) (wt I 3 c)

/-- What a device returns `r + 1` behind. -/
def ysr (r : Fin 3) (c : Dev nD) : Vec F S1x384x1024 .bf16 := match r with | 0 => ys1 I c | 1 => ys2 I c | 2 => ys3 I c

/-! ## Combine -/

/-- The result block as it grows: shared part and own rows, -/
def out0 (c : Dev nD) : Vec F S1024x1024 .f32 := k0_pay31 (k0_pay30 (k0_pay2 (I.x c)) (I.sw c)) (oh0 I c) (ys0 I c)
/-- with the rows back from one ahead, -/
def out1 (c : Dev nD) : Vec F S1024x1024 .f32 := k0_pay54 (out0 I c) (oh1 I c) (ysr I 0 (sh 0 c))
/-- two ahead, -/
def out2 (c : Dev nD) : Vec F S1024x1024 .f32 := k0_pay55 (out1 I c) (oh2 I c) (ysr I 1 (sh 1 c))
/-- three ahead. -/
def out3 (c : Dev nD) : Vec F S1024x1024 .f32 := k0_pay1 (out2 I c) (oh3 I c) (ysr I 2 (sh 2 c))

end Cert.KernelIdeal.Moe

end
-- ==== Proof.KernelIdeal.Proto.lean ====
/-
# Proto: the protocol of the four devices

Each device has thirteen semaphores the protocol runs on (`CK`): the barrier; for each of the three others a send
and a receive semaphore of the outward transfers; the same for the return transfers. One round each.

* A device raises the barrier of each of the other three by one: with that unit it hands over the two landing slots
  that device will write (`barPay`).
* An outward transfer pays the sender its slot back (`snd`) and the receiver its landing slot, holding the sender's
  rows (`rcv`); a return transfer likewise (`bsnd`, `brcv`).

The levels put the barrier below the outward receives and those below the return receives, so no wait is for
something that waits for it.
-/
module

public import proofs.«01_k».proof.Proof.Slots
public import proofs.«01_k».proof.Proof.KernelIdeal.Vals
public import proofs.«01_k».proof.Proof.Gen.KernelIdeal.Launch

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state, beside the pipeline library's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers and their slots -/

abbrev xM : Memref sig .tc .vmem S1024x512 .f32 := Memref.whole cc0_stg0_0
abbrev rwM : Memref sig .tc .vmem S512x16 .f32 := Memref.whole cc0_stg1_0
abbrev riM : Memref sig .tc .vmem S1024x1 .i32 := Memref.whole cc0_stg2_0
abbrev ewM : Memref sig .tc .vmem S4x512x1024 .f32 := Memref.whole cc0_stg3_0
abbrev swM : Memref sig .tc .vmem S512x1024 .f32 := Memref.whole cc0_stg4_0
abbrev oM : Memref sig .tc .vmem S1024x1024 .f32 := Memref.whole cc0_stg5_0
abbrev ohM : Memref sig .tc .vmem S4x1024x384 .f32 := Memref.whole cc0_scratch0
abbrev psM : Memref sig .tc .vmem S4x384x528 .bf16 := Memref.whole cc0_scratch1
abbrev prM : Memref sig .tc .vmem S3x384x528 .bf16 := Memref.whole cc0_scratch2
abbrev ysM : Memref sig .tc .vmem S4x384x1024 .bf16 := Memref.whole cc0_scratch3
abbrev yrM : Memref sig .tc .vmem S3x384x1024 .bf16 := Memref.whole cc0_scratch4

theorem inbOh (k : ℕ) (h : k < 4) : ∀ a, (![k, 0, 0] : Fin 3 → Nat) a + S1x1024x384.size a ≤ S4x1024x384.size a := by
  intro a; fin_cases a <;> simp [S4x1024x384, S1x1024x384]; omega
theorem inbPs (k : ℕ) (h : k < 4) : ∀ a, (![k, 0, 0] : Fin 3 → Nat) a + S1x384x528.size a ≤ S4x384x528.size a := by
  intro a; fin_cases a <;> simp [S4x384x528, S1x384x528]; omega
theorem inbPr (k : ℕ) (h : k < 3) : ∀ a, (![k, 0, 0] : Fin 3 → Nat) a + S1x384x528.size a ≤ S3x384x528.size a := by
  intro a; fin_cases a <;> simp [S3x384x528, S1x384x528]; omega
theorem inbYs (k : ℕ) (h : k < 4) : ∀ a, (![k, 0, 0] : Fin 3 → Nat) a + S1x384x1024.size a ≤ S4x384x1024.size a := by
  intro a; fin_cases a <;> simp [S4x384x1024, S1x384x1024]; omega
theorem inbYr (k : ℕ) (h : k < 3) : ∀ a, (![k, 0, 0] : Fin 3 → Nat) a + S1x384x1024.size a ≤ S3x384x1024.size a := by
  intro a; fin_cases a <;> simp [S3x384x1024, S1x384x1024]; omega

abbrev ohR (k : ℕ) (h : k < 4) : Rect S4x1024x384 := Rect.unit (s := S4x1024x384) ![k, 0, 0] S1x1024x384.size (inbOh k h)
abbrev psR (k : ℕ) (h : k < 4) : Rect S4x384x528 := Rect.unit (s := S4x384x528) ![k, 0, 0] S1x384x528.size (inbPs k h)
abbrev prR (k : ℕ) (h : k < 3) : Rect S3x384x528 := Rect.unit (s := S3x384x528) ![k, 0, 0] S1x384x528.size (inbPr k h)
abbrev ysR (k : ℕ) (h : k < 4) : Rect S4x384x1024 := Rect.unit (s := S4x384x1024) ![k, 0, 0] S1x384x1024.size (inbYs k h)
abbrev yrR (k : ℕ) (h : k < 3) : Rect S3x384x1024 := Rect.unit (s := S3x384x1024) ![k, 0, 0] S1x384x1024.size (inbYr k h)

abbrev ohS (k : ℕ) (h : k < 4 := by decide) : Memref sig .tc .vmem S1x1024x384 .f32 := ohM.slice (ohR k h) (fun _ => rfl)
abbrev psS (k : ℕ) (h : k < 4 := by decide) : Memref sig .tc .vmem S1x384x528 .bf16 := psM.slice (psR k h) (fun _ => rfl)
abbrev prS (k : ℕ) (h : k < 3 := by decide) : Memref sig .tc .vmem S1x384x528 .bf16 := prM.slice (prR k h) (fun _ => rfl)
abbrev ysS (k : ℕ) (h : k < 4 := by decide) : Memref sig .tc .vmem S1x384x1024 .bf16 := ysM.slice (ysR k h) (fun _ => rfl)
abbrev yrS (k : ℕ) (h : k < 3 := by decide) : Memref sig .tc .vmem S1x384x1024 .bf16 := yrM.slice (yrR k h) (fun _ => rfl)

/-- Device `c` owns the slot `v`, holding `X`. -/
abbrev own (c : Dev nD) {s : Shape} {e : EltTy} (v : Memref sig .tc .vmem s e) (X : s.Idx → Elt F e) : sProp 𝕄 :=
  owns (Ix := Unit) (Name := ℕ) (U := UU) (Lvl := ℕ) (c : Thread nD τ) v fullShare X

/-! ## The semaphores -/

/-- A device's thirteen semaphores: the barrier, the outward sends and receives, the return sends and receives. -/
inductive CK
  | bar
  | snd (r : Fin 3)
  | rcv (r : Fin 3)
  | bsnd (r : Fin 3)
  | brcv (r : Fin 3)
  deriving DecidableEq

/-- All thirteen. -/
def CK.all : List CK :=
  [.bar, .snd 0, .snd 1, .snd 2, .rcv 0, .rcv 1, .rcv 2, .bsnd 0, .bsnd 1, .bsnd 2, .brcv 0, .brcv 1, .brcv 2]

theorem CK.mem_all (k : CK) : k ∈ CK.all := by
  rcases k with _ | r | r | r | r
  · decide
  all_goals fin_cases r <;> decide
theorem CK.nodup_all : CK.all.Nodup := by decide

instance : Fintype CK := ⟨⟨(CK.all : Multiset CK), CK.nodup_all⟩, CK.mem_all⟩

abbrev barS : Sem sig := (SemArray.scalar (sig.barrier 0 rfl) : Sems sig S_).sem

theorem inbSem (k : ℕ) (h : k < 3) : ∀ a, (![k] : Fin 1 → Nat) a + S1.size a ≤ S3.size a := by
  intro a; fin_cases a; simp [S1, S3]; omega
/-- Semaphore `k` of an array of three. -/
abbrev sem3 (A : DmaSems sig S3) (k : ℕ) (h : k < 3 := by decide) : DmaSem sig :=
  ((A.slice (Rect.unit (s := S3) ![k] S1.size (inbSem k h))).squeeze S_ squeezes_S1_S_).sem

/-- Where each is. -/
def csem : CK → SemLoc sig
  | .bar => .reg barS
  | .snd r => .dma (sem3 cc0_scratch5 r.val r.isLt)
  | .rcv r => .dma (sem3 cc0_scratch6 r.val r.isLt)
  | .bsnd r => .dma (sem3 cc0_scratch7 r.val r.isLt)
  | .brcv r => .dma (sem3 cc0_scratch8 r.val r.isLt)

abbrev cell (c : Dev nD) (k : CK) : GSem nD τ sig := ((c : Thread nD τ), csem k)

/-- Which of the thirteen a semaphore is. -/
def which (s : SemLoc sig) : Option CK := CK.all.find? fun k => decide (csem k = s)

theorem which_csem (k : CK) : which (csem k) = some k := by
  rcases k with _ | r | r | r | r
  · decide
  all_goals fin_cases r <;> decide

theorem csem_injective : Function.Injective csem := fun a b h => by
  have := congrArg which h
  rw [which_csem, which_csem] at this
  exact Option.some.inj this

/-! ## The schedule -/

/-- The credit of an outward and of a return transfer. -/
def NP : ℕ := ((prS 0).squeeze S384x528 squeezes_S1x384x528_S384x528).view.dmaCredit
def NY : ℕ := ((yrS 0).squeeze S384x1024 squeezes_S1x384x1024_S384x1024).view.dmaCredit
theorem NP_pos : 0 < NP := by unfold NP; exact View.dmaCredit_pos _ (by decide)
theorem NY_pos : 0 < NY := by unfold NY; exact View.dmaCredit_pos _ (by decide)

/-- What one contribution to each is worth, -/
def amt : CK → ℕ
  | .bar => 1
  | .snd _ => NP
  | .rcv _ => NP
  | .bsnd _ => NY
  | .brcv _ => NY

theorem amt_pos : ∀ k, 0 < amt k
  | .bar => Nat.one_pos
  | .snd _ => NP_pos
  | .rcv _ => NP_pos
  | .bsnd _ => NY_pos
  | .brcv _ => NY_pos

/-- and what its round comes to. -/
def total : CK → ℕ
  | .bar => 3
  | k => amt k

/-- Who contributes: three devices to the barrier, one to each of the others. -/
def due : CK → Finset (Fin 3)
  | .bar => Finset.univ
  | _ => {0}

/-- With its unit a device hands over its two landing slots that the device `r + 1` ahead of it (`c`) writes. -/
def barPay (r : Fin 3) (c : Dev nD) : sProp 𝕄 :=
  iprop((∃ X, own (sh r.rev c) (prS r.rev.val r.rev.isLt) X) ∗ (∃ Y, own (sh r.rev c) (yrS r.val r.isLt) Y))

variable (I : Ins F)

/-- What comes with a contribution to device `c`'s semaphore `k`. -/
def pay (k : CK) (c : Dev nD) (d : Fin 3) : sProp 𝕄 := match k with
  | .bar => barPay d c
  | .snd r => own c (psS (r.val + 1) (by omega)) (psr I r c)
  | .rcv r => own c (prS r.val r.isLt) (psr I r (sh r.rev c))
  | .bsnd r => own c (ysS (r.val + 1) (by omega)) (ysr I r c)
  | .brcv r => own c (yrS r.val r.isLt) (ysr I r (sh r c))

/-- The protocol's schedule: one round at each of the thirteen semaphores of each device. -/
def rd : Rounds.Schedule (GSem nD τ sig) (Fin 3) 𝕄 where
  duties g r := if r = 0 then (match which g.2 with | some k => due k | none => ∅) else ∅
  unitless _ := False
  amount g _ _ := match which g.2 with | some k => amt k | none => 1
  payload g _ d := match which g.2 with | some k => pay I k g.1.1 d | none => iprop(emp)
  amount_pos g _ _ _ := by
    cases which g.2 with
    | none => exact Nat.one_pos
    | some k => exact amt_pos k

instance barPay_storable (r : Fin 3) (c : Dev nD) : BI.Storable (upEmb : UEmb _ 𝕄) (barPay (F := F) r c) := by
  unfold barPay; infer_instance

instance pay_storable (k : CK) (c : Dev nD) (d : Fin 3) : BI.Storable (upEmb : UEmb _ 𝕄) (pay I k c d) := by
  unfold pay; cases k <;> infer_instance

instance rd_storable (g : GSem nD τ sig) (r : ℕ) (d : Fin 3) : BI.Storable (upEmb : UEmb _ 𝕄) ((rd I).payload g r d) := by
  show BI.Storable upEmb (match which g.2 with | some k => pay I k g.1.1 d | none => iprop(emp))
  split <;> infer_instance

theorem duties_cell (c : Dev nD) (k : CK) : (rd I).duties (cell c k) 0 = due k := by
  show (if (0 : ℕ) = 0 then (match which (csem k) with | some k => due k | none => ∅) else ∅) = _
  rw [if_pos rfl, which_csem]

theorem duties_later (g : GSem nD τ sig) : ∀ r, 1 ≤ r → (rd I).duties g r = ∅ := fun r hr => by
  show (if r = 0 then _ else ∅) = _
  exact if_neg (by omega)

theorem amount_cell (c : Dev nD) (k : CK) (r : ℕ) (d : Fin 3) : (rd I).amount (cell c k) r d = amt k := by
  show (match which (csem k) with | some k => amt k | none => 1) = _
  rw [which_csem]

theorem payload_cell (c : Dev nD) (k : CK) (r : ℕ) (d : Fin 3) : (rd I).payload (cell c k) r d = pay I k c d := by
  show (match which (csem k) with | some k => pay I k c d | none => iprop(emp)) = _
  rw [which_csem]

theorem expect_cell (c : Dev nD) (k : CK) : (rd I).expect (cell c k) 0 = total k := by
  unfold Schedule.expect Schedule.amountOf
  rw [duties_cell, Finset.sum_congr rfl fun d _ => amount_cell I c k 0 d, Finset.sum_const]
  cases k
  · rfl
  all_goals simp [due, total]

/-- A round's payloads: the one there is, -/
theorem rest_cell (c : Dev nD) (k : CK) (hk : k ≠ .bar) :
    bigSep ((rd I).duties (cell c k) 0 \ ∅) (fun d => (rd I).payload (cell c k) 0 d) = pay I k c 0 := by
  rw [Finset.sdiff_empty, duties_cell, show due k = {0} by cases k <;> first | rfl | exact absurd rfl hk, bigSep_singleton, payload_cell]

/-- or, at the barrier, the three devices'. -/
theorem rest_bar (c : Dev nD) :
    bigSep ((rd I).duties (cell c .bar) 0 \ ∅) (fun d => (rd I).payload (cell c .bar) 0 d)
      = iprop(barPay (F := F) 0 c ∗ barPay (F := F) 1 c ∗ barPay (F := F) 2 c) := by
  rw [Finset.sdiff_empty, duties_cell, show due .bar = Finset.univ from rfl,
    bigSep_univ_eq_bigSepL [0, 1, 2] (by decide) (by decide), bigSepL_cons_cons, bigSepL_cons_cons, bigSepL_singleton,
    payload_cell, payload_cell, payload_cell]
  rfl

/-! ## What a device owes, and the levels -/

/-- Contributions owed: the head of the list is the next one made. -/
def owed : List (GSem nD τ sig × ℕ) → CellTallies nD τ sig Unit
  | [] => 0
  | a :: l => owed l + tallyAt a.1 () a.2

theorem owed_pos {l : List (GSem nD τ sig × ℕ)} {g : GSem nD τ sig} {u : Unit} (h : 0 < owed l g u) : ∃ n, (g, n) ∈ l := by
  induction l with
  | nil => exact absurd h (Nat.lt_irrefl 0)
  | cons a l ih =>
    unfold owed at h
    rw [Pi.add_apply, Finsupp.add_apply, tallyAt_apply] at h
    by_cases hg : g = a.1
    · exact ⟨a.2, by rw [hg]; exact List.mem_cons_self⟩
    · rw [if_neg (fun h' => hg h'.1)] at h
      obtain ⟨n, hn⟩ := ih h
      exact ⟨n, List.mem_cons_of_mem _ hn⟩

/-- The dues of device `c`, in the order it makes them: a unit to each barrier, the outward transfers, the returns. -/
def back (c : Dev nD) : List (GSem nD τ sig × ℕ) := [(cell (sh 2 c) (.brcv 0), NY), (cell (sh 1 c) (.brcv 1), NY), (cell (sh 0 c) (.brcv 2), NY)]
def forth (c : Dev nD) : List (GSem nD τ sig × ℕ) :=
  (cell (sh 0 c) (.rcv 0), NP) :: (cell (sh 1 c) (.rcv 1), NP) :: (cell (sh 2 c) (.rcv 2), NP) :: back c
def dues (c : Dev nD) : List (GSem nD τ sig × ℕ) :=
  (cell (sh 0 c) .bar, 1) :: (cell (sh 1 c) .bar, 1) :: (cell (sh 2 c) .bar, 1) :: forth c

def L (g : GSem nD τ sig) : Finset Unit := if g.1.2 = .tc then {()} else ∅
def rk : Option CK → ℕ
  | some .bar => 1
  | some (.rcv _) => 2
  | some (.brcv _) => 3
  | _ => 0
/-- Barriers at 1, outward receives at 2, return receives at 3, all else at 0. -/
def lv (g : GSem nD τ sig) (_ : Unit) : ℕ := rk (which g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait at a level below those of all it owes. -/
theorem mayWait (c : Dev nD) (sm : SemLoc sig) (l : List (GSem nD τ sig × ℕ))
    (h : ∀ a ∈ l, a.1.1.2 = .tc ∧ rk (which sm) < lv a.1 ()) :
    (levAts L lv : sProp 𝕄) ⊢ MayWait (c : Thread nD τ) sm () (owed l) :=
  MayOwe.of_cut (L := L) (lev := lv) (rk (which sm)) (fun p hp => by rw [Finset.mem_singleton.mp hp, L_tc]; exact Finset.mem_singleton_self _)
    (fun g u hg => by
      obtain ⟨n, hn⟩ := owed_pos hg
      unfold L; rw [if_pos (h _ hn).1]; exact Finset.mem_singleton_self _)
    (fun p hp => by rw [Finset.mem_singleton.mp hp]; exact le_refl _)
    (fun g u hg => by
      obtain ⟨n, hn⟩ := owed_pos hg
      exact (h _ hn).2)

theorem lv_cell (c : Dev nD) (k : CK) (u : Unit) : lv (cell c k) u = rk (some k) := by
  show rk (which (csem k)) = _
  rw [which_csem]

theorem back_above (c : Dev nD) {n : ℕ} (hn : n < 3) : ∀ a ∈ back c, a.1.1.2 = .tc ∧ n < lv a.1 () := by
  intro a ha
  simp only [back, List.mem_cons, List.not_mem_nil, or_false] at ha
  rcases ha with rfl | rfl | rfl <;> exact ⟨rfl, by rw [lv_cell]; exact hn⟩
theorem forth_above (c : Dev nD) {n : ℕ} (hn : n < 2) : ∀ a ∈ forth c, a.1.1.2 = .tc ∧ n < lv a.1 () := by
  intro a ha
  simp only [forth, List.mem_cons] at ha
  rcases ha with rfl | rfl | rfl | ha
  all_goals first | exact ⟨rfl, by rw [lv_cell]; exact hn⟩ | exact back_above c (by omega) a ha
theorem dues_above (c : Dev nD) {n : ℕ} (hn : n < 1) : ∀ a ∈ dues c, a.1.1.2 = .tc ∧ n < lv a.1 () := by
  intro a ha
  simp only [dues, List.mem_cons] at ha
  rcases ha with rfl | rfl | rfl | ha
  all_goals first | exact ⟨rfl, by rw [lv_cell]; exact hn⟩ | exact forth_above c (by omega) a ha

/-! ## The ghost state -/

/-- The invariants of all the devices' semaphores, under the names `K`, and that each is at its round. -/
def records (K : Dev nD × CK → ℕ) : sProp 𝕄 :=
  iprop((bigSep Finset.univ fun ck : Dev nD × CK => cellInv ER (rd I) (K ck) (cell ck.1 ck.2))
    ∗ bigSep Finset.univ fun ck : Dev nD × CK => reached ER (cell ck.1 ck.2) 0)

instance records_persistent (K : Dev nD × CK → ℕ) : BI.Persistent (records I K) := by unfold records; infer_instance

theorem inv_at (K : Dev nD × CK → ℕ) (c : Dev nD) (k : CK) : records I K ⊢ cellInv ER (rd I) (K (c, k)) (cell c k) := by
  unfold records
  iintro ⟨H, -⟩
  have h : (bigSep Finset.univ fun ck : Dev nD × CK => (cellInv ER (rd I) (K ck) (cell ck.1 ck.2) : sProp 𝕄))
      ⊢ cellInv ER (rd I) (K (c, k)) (cell c k) := bigSep_elim (Finset.mem_univ (c, k))
  iapply h; iexact H
theorem reached_at (K : Dev nD × CK → ℕ) (c : Dev nD) (k : CK) : records I K ⊢ reached ER (cell c k) 0 := by
  unfold records
  iintro ⟨-, H⟩
  have h : (bigSep Finset.univ fun ck : Dev nD × CK => (reached ER (cell ck.1 ck.2) 0 : sProp 𝕄))
      ⊢ reached ER (cell c k) 0 := bigSep_elim (Finset.mem_univ (c, k))
  iapply h; iexact H

/-- Device `c` stands before the round of its semaphore `k`. -/
abbrev pos (c : Dev nD) (k : CK) : sProp 𝕄 := atPos ER (cell c k) 0 ∅ 0
/-- The right to make contribution `d` to device `c`'s semaphore `k`. -/
abbrev tok (c : Dev nD) (k : CK) (d : Fin 3) : sProp 𝕄 := dutyTok ER (cell c k) 0 d
/-- A promise that `n` will reach device `c`'s semaphore `k`. -/
abbrev crd (c : Dev nD) (k : CK) (n : ℕ) : sProp 𝕄 := cred (tallyAt (cell c k) () n)
/-- Device `c` owes the contributions in `l`. -/
def ow (c : Dev nD) (l : List (GSem nD τ sig × ℕ)) : sProp 𝕄 := iprop(∃ W : Waits sig Unit, owes (c : Thread nD τ) (owed l) W)

end Cert.KernelIdeal.Moe

end
-- ==== Proof.KernelIdeal.Steps.lean ====
/-
# Steps: the protocol's moves — a barrier signal, the barrier wait, a transfer out and back, a transfer's wait

Each as an entailment into the program that makes the move: what the device gives, and what it goes on with.
-/
module

public import proofs.«01_k».proof.Proof.KernelIdeal.Proto

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs the program `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Ins F) (K : Dev nD × CK → ℕ)

theorem mem_due (c : Dev nD) (k : CK) (d : Fin 3) (h : d ∈ due k) : d ∈ (rd I).duties (cell c k) 0 := by rw [duties_cell]; exact h

section Moves

variable (c : Dev nD) {α : Type} {k : PUnit → Prog (TpuEff nD τ sig (Elt F) Λ₀ .tc) α}

/-- The signal to the device `r + 1` ahead, with the two landing slots it will write. -/
theorem signal_bar {Q : α → sProp 𝕄} (r : Fin 3) (n : Dev nD) (hn : n = sh r c) (l : List (GSem nD τ sig × ℕ)) :
    iprop(records I K ∗ ow c ((cell (sh r c) .bar, 1) :: l) ∗ tok (sh r c) .bar r
        ∗ (∃ X, own c (prS r.rev.val r.rev.isLt) X) ∗ (∃ Y, own c (yrS r.val r.isLt) Y))
      ⊢ iprop((ow c l -∗ run c (k ⟨⟩) Q) -∗ run c (.op (.semSignal (Dev.tc n : Thread nD τ) barS 1) k) Q) := by
  subst hn
  unfold ow
  iintro ⟨#HR, ⟨%W, HO⟩, Ht, HX, HY⟩ Hk
  iapply (Rounds.wp_signal 𝒱₀ ER (rd I) (c : Thread nD τ) none (dst := (sh r c : Thread nD τ)) (κ := K (sh r c, .bar))
      (d := r) (r := 0) (mem_due I (sh r c) .bar r (Finset.mem_univ _))
      (amount_cell I (sh r c) .bar 0 r) () (owed l) rfl) $$ [HO Ht HX HY]
  · isplitr; · iapply (inv_at I K (sh r c) .bar); iexact HR
    isplitl [HO]; · iexact HO
    isplitl [Ht]; · iexact Ht
    isplitl [HX HY]
    · have e : (rd I).payload ((sh r c : Thread nD τ), SemLoc.reg barS) 0 r = pay I .bar (sh r c) r := payload_cell I (sh r c) .bar 0 r
      rw [e]
      unfold pay barPay
      rw [sh_rev]
      isplitl [HX] <;> iassumption
    iapply (reached_at I K (sh r c) .bar); iexact HR
  iintro HO
  iapply Hk
  iexists W; iexact HO

/-- The wait for all three signals: the landing slots on the other three devices come with it. -/
theorem wait_bar {Q : α → sProp 𝕄} (l : List (GSem nD τ sig × ℕ)) (hl : ∀ a ∈ l, a.1.1.2 = .tc ∧ 1 < lv a.1 ()) :
    iprop(records I K ∗ levAts L lv ∗ ow c l ∗ crd c .bar 3 ∗ pos c .bar)
      ⊢ iprop(((ow c l ∗ semVal (cell c .bar) 0 ∗ barPay 0 c ∗ barPay 1 c ∗ barPay 2 c) -∗ run c (k ⟨⟩) Q)
          -∗ run c (.op (.semWait barS 3) k) Q) := by
  unfold ow
  iintro ⟨#HR, #HL, ⟨%W, HO⟩, Hc, Ha⟩ Hk
  iapply (Rounds.wp_wait_rest_token 𝒱₀ ER (rd I) (c : Thread nD τ) none (κ := K (c, .bar))
      (wpE_semWait_eq 𝒱₀ (c : Thread nD τ) none Set.univ) (Set.mem_univ _) () (O := owed l) (W := W) (R := 0) (m := 0) (T := ∅)
      (by rw [Nat.zero_add]; exact (expect_cell I c .bar).symm)) $$ [Hc HO Ha]
  · isplitr; · iapply (inv_at I K c .bar); iexact HR
    isplitl [Hc]; · iexact Hc
    isplitl [HO]; · iexact HO
    isplitr
    · iapply (mayWait c (.reg barS) l (by rw [show SemLoc.reg barS = csem .bar from rfl, which_csem]; exact hl)); iexact HL
    iexact Ha
  iintro ⟨HO, Ha, -, Hp⟩
  have e : bigSep ((rd I).duties ((c : Thread nD τ), SemLoc.reg barS) 0 \ ∅) (fun d => (rd I).payload ((c : Thread nD τ), SemLoc.reg barS) 0 d)
      = iprop(barPay (F := F) 0 c ∗ barPay (F := F) 1 c ∗ barPay (F := F) 2 c) := rest_bar I c
  ihave Hp := (Entails.of_eq e) $$ Hp
  imod (Rounds.cell_close ER (rd I) (Set.mem_univ (K (c, .bar))) (fun h => h) (R := 0 + 1) (duties_later I (cell c .bar))) $$ [Ha] with Hz
  · isplitr; · iapply (inv_at I K c .bar); iexact HR
    iexact Ha
  iapply Hk
  isplitl [HO]; · iexists _; iexact HO
  isplitl [Hz]; · iexact Hz
  iexact Hp

/-- The wait on a transfer's semaphore `q`: what the transfer pays comes with it, and the semaphore is at zero, done with. -/
theorem wait_dma {Q : α → sProp 𝕄} (q : CK) (hq : q ≠ .bar) {sm : DmaSem sig} (hsm : csem q = .dma sm) (l : List (GSem nD τ sig × ℕ))
    (hl : ∀ a ∈ l, a.1.1.2 = .tc ∧ rk (some q) < lv a.1 ())
    {sp sp' : Space} {s s' : Shape} {e e' : EltTy} {src : Memref sig .tc sp' s' e'} {dst : Memref sig .tc sp s e}
    {hsrc : src.view.WordExact} {hdst : dst.view.WordExact} (hamt : dst.view.dmaCredit = amt q)
    {n : ℕ} (hn : amt q = n) {P : sProp 𝕄} (hP : pay I q c 0 = P) :
    iprop(records I K ∗ levAts L lv ∗ ow c l ∗ crd c q n ∗ pos c q)
      ⊢ iprop(((ow c l ∗ semVal (cell c q) 0 ∗ P) -∗ run c (k ⟨⟩) Q)
          -∗ run c (.op (.waitDma2 sm src dst hsrc hdst) k) Q) := by
  subst hn hP
  unfold ow
  iintro ⟨#HR, #HL, ⟨%W, HO⟩, Hc, Ha⟩ Hk
  have hcell : ((c : Thread nD τ), SemLoc.dma sm) = cell c q := by rw [← hsm]
  iapply (Rounds.wp_wait_rest_token 𝒱₀ ER (rd I) (c : Thread nD τ) none (κ := K (c, q)) (sm := .dma sm)
      (wpE_waitDma2_eq 𝒱₀ (c : Thread nD τ) none Set.univ) (Set.mem_univ _) () (O := owed l) (W := W) (R := 0) (m := 0) (T := ∅)
      (by rw [Nat.zero_add, hamt, hcell, expect_cell]; cases q <;> first | rfl | exact absurd rfl hq)) $$ [Hc HO Ha]
  · rw [hcell, hamt]
    isplitr; · iapply (inv_at I K c q); iexact HR
    isplitl [Hc]; · iexact Hc
    isplitl [HO]; · iexact HO
    isplitr
    · rw [← hsm]
      iapply (mayWait c (csem q) l (by rw [which_csem]; exact hl)); iexact HL
    iexact Ha
  rw [hcell]
  iintro ⟨HO, Ha, -, Hp⟩
  ihave Hp := (Entails.of_eq (rest_cell I c q hq)) $$ Hp
  imod (Rounds.cell_close ER (rd I) (Set.mem_univ (K (c, q))) (fun h => h) (R := 0 + 1) (duties_later I (cell c q))) $$ [Ha] with Hz
  · isplitr; · iapply (inv_at I K c q); iexact HR
    iexact Ha
  iapply Hk
  isplitl [HO]; · iexists _; iexact HO
  isplitl [Hz]; · iexact Hz
  iexact Hp

/-- The transfer of the rows for the device `r + 1` ahead into its landing slot. -/
theorem send_forth {Q : α → sProp 𝕄} (r : Fin 3) (n : Dev nD) (hn : n = sh r c) (l : List (GSem nD τ sig × ℕ))
    {hsc : ((prS r.val r.isLt : Memref sig (Dev.tc n : Thread nD τ).2.kind .vmem S1x384x528 .bf16).squeeze S384x528 squeezes_S1x384x528_S384x528).view.ref.isScScratch = false}
    {hsrc : ((psS (r.val + 1) (by omega)).squeeze S384x528 squeezes_S1x384x528_S384x528).view.WordExact}
    {hdst : ((prS r.val r.isLt).squeeze S384x528 squeezes_S1x384x528_S384x528).view.WordExact}
    {hsem : DmaTarget.Typed .vmem (.dma (sem3 cc0_scratch6 r.val r.isLt))
      (.remote (Dev.tc n : Thread nD τ) ((prS r.val r.isLt).squeeze S384x528 squeezes_S1x384x528_S384x528) (.dma (sem3 cc0_scratch5 r.val r.isLt)) hsc)}
    {X : S1x384x528.Idx → Elt F .bf16} :
    iprop(records I K ∗ ow c ((cell (sh r c) (.rcv r), NP) :: l) ∗ own c (psS (r.val + 1) (by omega)) (psr I r c)
        ∗ own (sh r c) (prS r.val r.isLt) X ∗ tok c (.snd r) 0 ∗ tok (sh r c) (.rcv r) 0)
      ⊢ iprop(((ow c l ∗ crd c (.snd r) NP) -∗ run c (k ⟨⟩) Q)
          -∗ run c (.op (.enqueueDma ((psS (r.val + 1) (by omega)).squeeze S384x528 squeezes_S1x384x528_S384x528)
              (.remote (Dev.tc n : Thread nD τ) ((prS r.val r.isLt).squeeze S384x528 squeezes_S1x384x528_S384x528) (.dma (sem3 cc0_scratch5 r.val r.isLt)) hsc)
              (.dma (sem3 cc0_scratch6 r.val r.isLt)) hsrc hdst hsem) k) Q) := by
  subst hn
  unfold ow
  iintro ⟨#HR, ⟨%W, HO⟩, Hs, Hd, Ht, Ht'⟩ Hk
  ihave Hs := (owns_squeeze (c : Thread nD τ) _ squeezes_S1x384x528_S384x528 shapeCasts_S1x384x528_S384x528 _ _) $$ Hs
  ihave Hd := (owns_squeeze (sh r c : Thread nD τ) _ squeezes_S1x384x528_S384x528 shapeCasts_S1x384x528_S384x528 _ _) $$ Hd
  iapply (wp_send_slot 𝒱₀ (c : Thread nD τ) none Set.univ ER (rd I) (κ₁ := K (c, .snd r)) (κ₂ := K (sh r c, .rcv r))
      (r₁ := 0) (r₂ := 0) (d₁ := 0) (d₂ := 0)
      (mem_due I (c) (.snd r) 0 (Finset.mem_singleton_self _))
      (mem_due I (sh r c) (.rcv r) 0 (Finset.mem_singleton_self _))
      () () NP (by unfold NP; rfl) (amount_cell I c (.snd r) 0 0) (amount_cell I (sh r c) (.rcv r) 0 0) (owed l) rfl (W := W)
      (by
        refine BIBase.Entails.trans ?_ (Entails.of_eq (payload_cell I (c) (.snd r) 0 0).symm)
        exact owns_unsqueeze (c : Thread nD τ) _ squeezes_S1x384x528_S384x528 shapeCasts_S1x384x528_S384x528 _ _)
      (by
        refine BIBase.Entails.trans ?_ (Entails.of_eq (payload_cell I (sh r c) (.rcv r) 0 0).symm)
        rw [show pay I (.rcv r) (sh r c) 0 = own (sh r c) (prS r.val r.isLt) (psr I r (sh r.rev (sh r c))) from rfl, sh_rev]
        exact owns_unsqueeze (sh r c : Thread nD τ) _ squeezes_S1x384x528_S384x528 shapeCasts_S1x384x528_S384x528 _ _)) $$ [HO Hs Hd Ht Ht']
  · isplitr; · iapply (inv_at I K c (.snd r)); iexact HR
    isplitr; · iapply (inv_at I K (sh r c) (.rcv r)); iexact HR
    isplitl [Hs]; · iexact Hs
    isplitl [Hd]; · iexact Hd
    isplitl [HO]; · iexact HO
    isplitl [Ht]; · iexact Ht
    isplitr; · iapply (reached_at I K c (.snd r)); iexact HR
    isplitl [Ht']; · iexact Ht'
    iapply (reached_at I K (sh r c) (.rcv r)); iexact HR
  iintro ⟨Hc, HO⟩
  iapply Hk
  isplitl [HO]; · iexists W; iexact HO
  iexact Hc

/-- The return transfer of the rows computed for the device `r + 1` behind, into its return slot. -/
theorem send_back {Q : α → sProp 𝕄} (r : Fin 3) (n : Dev nD) (hn : n = sh r.rev c) (l : List (GSem nD τ sig × ℕ))
    {hsc : ((yrS r.val r.isLt : Memref sig (Dev.tc n : Thread nD τ).2.kind .vmem S1x384x1024 .bf16).squeeze S384x1024 squeezes_S1x384x1024_S384x1024).view.ref.isScScratch = false}
    {hsrc : ((ysS (r.val + 1) (by omega)).squeeze S384x1024 squeezes_S1x384x1024_S384x1024).view.WordExact}
    {hdst : ((yrS r.val r.isLt).squeeze S384x1024 squeezes_S1x384x1024_S384x1024).view.WordExact}
    {hsem : DmaTarget.Typed .vmem (.dma (sem3 cc0_scratch8 r.val r.isLt))
      (.remote (Dev.tc n : Thread nD τ) ((yrS r.val r.isLt).squeeze S384x1024 squeezes_S1x384x1024_S384x1024) (.dma (sem3 cc0_scratch7 r.val r.isLt)) hsc)}
    {X : S1x384x1024.Idx → Elt F .bf16} :
    iprop(records I K ∗ ow c ((cell (sh r.rev c) (.brcv r), NY) :: l) ∗ own c (ysS (r.val + 1) (by omega)) (ysr I r c)
        ∗ own (sh r.rev c) (yrS r.val r.isLt) X ∗ tok c (.bsnd r) 0 ∗ tok (sh r.rev c) (.brcv r) 0)
      ⊢ iprop(((ow c l ∗ crd c (.bsnd r) NY) -∗ run c (k ⟨⟩) Q)
          -∗ run c (.op (.enqueueDma ((ysS (r.val + 1) (by omega)).squeeze S384x1024 squeezes_S1x384x1024_S384x1024)
              (.remote (Dev.tc n : Thread nD τ) ((yrS r.val r.isLt).squeeze S384x1024 squeezes_S1x384x1024_S384x1024) (.dma (sem3 cc0_scratch7 r.val r.isLt)) hsc)
              (.dma (sem3 cc0_scratch8 r.val r.isLt)) hsrc hdst hsem) k) Q) := by
  subst hn
  unfold ow
  iintro ⟨#HR, ⟨%W, HO⟩, Hs, Hd, Ht, Ht'⟩ Hk
  ihave Hs := (owns_squeeze (c : Thread nD τ) _ squeezes_S1x384x1024_S384x1024 shapeCasts_S1x384x1024_S384x1024 _ _) $$ Hs
  ihave Hd := (owns_squeeze (sh r.rev c : Thread nD τ) _ squeezes_S1x384x1024_S384x1024 shapeCasts_S1x384x1024_S384x1024 _ _) $$ Hd
  iapply (wp_send_slot 𝒱₀ (c : Thread nD τ) none Set.univ ER (rd I) (κ₁ := K (c, .bsnd r)) (κ₂ := K (sh r.rev c, .brcv r))
      (r₁ := 0) (r₂ := 0) (d₁ := 0) (d₂ := 0)
      (mem_due I (c) (.bsnd r) 0 (Finset.mem_singleton_self _))
      (mem_due I (sh r.rev c) (.brcv r) 0 (Finset.mem_singleton_self _))
      () () NY (by unfold NY; rfl) (amount_cell I c (.bsnd r) 0 0) (amount_cell I (sh r.rev c) (.brcv r) 0 0) (owed l) rfl (W := W)
      (by
        refine BIBase.Entails.trans ?_ (Entails.of_eq (payload_cell I (c) (.bsnd r) 0 0).symm)
        exact owns_unsqueeze (c : Thread nD τ) _ squeezes_S1x384x1024_S384x1024 shapeCasts_S1x384x1024_S384x1024 _ _)
      (by
        refine BIBase.Entails.trans ?_ (Entails.of_eq (payload_cell I (sh r.rev c) (.brcv r) 0 0).symm)
        rw [show pay I (.brcv r) (sh r.rev c) 0 = own (sh r.rev c) (yrS r.val r.isLt) (ysr I r (sh r (sh r.rev c))) from rfl, rev_sh]
        exact owns_unsqueeze (sh r.rev c : Thread nD τ) _ squeezes_S1x384x1024_S384x1024 shapeCasts_S1x384x1024_S384x1024 _ _)) $$ [HO Hs Hd Ht Ht']
  · isplitr; · iapply (inv_at I K c (.bsnd r)); iexact HR
    isplitr; · iapply (inv_at I K (sh r.rev c) (.brcv r)); iexact HR
    isplitl [Hs]; · iexact Hs
    isplitl [Hd]; · iexact Hd
    isplitl [HO]; · iexact HO
    isplitl [Ht]; · iexact Ht
    isplitr; · iapply (reached_at I K c (.bsnd r)); iexact HR
    isplitl [Ht']; · iexact Ht'
    iapply (reached_at I K (sh r.rev c) (.brcv r)); iexact HR
  iintro ⟨Hc, HO⟩
  iapply Hk
  isplitl [HO]; · iexists W; iexact HO
  iexact Hc

end Moves

end Cert.KernelIdeal.Moe

end
-- ==== Proof.KernelIdeal.Send.lean ====
/-
# Send: the first half of the body — the barrier, the dispatch, the outward transfers

The kernel's body is a chain of parts; `stepN` states part `N` on the buffers the launch gives it: what it needs, what
it leaves, and the values it passes on.
-/
module

public import proofs.«01_k».proof.Proof.KernelIdeal.Steps

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- Device `c` holds its whole buffer `b`, containing `f`. -/
abbrev hold (b : Ref sig .tc) (f : b.ty.Contents (Elt F)) : sProp 𝕄 := ((c : Thread nD τ).loc b) ↦{fullShare} f

/-- A load of a held buffer through the rectangle `r` continues at what it reads there. -/
theorem load_held {α : Type} {Q : α → sProp 𝕄} {s : Shape} {e : EltTy} (M : Memref sig .tc .vmem s e) (r : Rect s) {hl : M.view.LoadsAt r.toLoadRect}
    {k : (r.shape.Idx → Elt F e) → Prog (TpuEff nD τ sig (Elt F) Λ₀ .tc) α} {f : Buf (Elt F) (M.view.loc (c : Thread nD τ))} {g : r.shape.Idx → Elt F e}
    (hg : M.view.readAt (Elt F) r.toLoadRect f = g) :
    (M.view.loc (c : Thread nD τ) ↦{fullShare} f : sProp 𝕄)
      ⊢ iprop(((M.view.loc (c : Thread nD τ) ↦{fullShare} f) -∗ run c (k g) Q) -∗ run c (.op (.load M r.toLoadRect hl) k) Q) := by
  subst hg
  exact wp_load 𝒱₀ (c : Thread nD τ) none Set.univ (m := M) (Finset.subset_univ _)

theorem zero2 : (![0, 0] : Fin 2 → Nat) = fun _ => 0 := funext fun a => by fin_cases a <;> rfl

/-- A load of all of a held buffer continues at its contents. -/
theorem load_x {α : Type} {Q : α → sProp 𝕄} {hl} {k : (S1024x512.Idx → Elt F .f32) → Prog (TpuEff nD τ sig (Elt F) Λ₀ .tc) α} {f : Vec F S1024x512 .f32} :
    (hold c cc0_stg0_0 f : sProp 𝕄) ⊢ iprop((hold c cc0_stg0_0 f -∗ run c (k f) Q)
      -∗ run c (.op (.load xM (Rect.unit (s := S1024x512) ![0, 0] S1024x512.size inb_S1024x512_S1024x512_0_0).toLoadRect hl) k) Q) :=
  load_held c xM _ (Memref.readAt_unit_zero (Elt F) cc0_stg0_0 zero2 _ f)
theorem load_rw {α : Type} {Q : α → sProp 𝕄} {hl} {k : (S512x16.Idx → Elt F .f32) → Prog (TpuEff nD τ sig (Elt F) Λ₀ .tc) α} {f : Vec F S512x16 .f32} :
    (hold c cc0_stg1_0 f : sProp 𝕄) ⊢ iprop((hold c cc0_stg1_0 f -∗ run c (k f) Q)
      -∗ run c (.op (.load rwM (Rect.unit (s := S512x16) ![0, 0] S512x16.size inb_S512x16_S512x16_0_0).toLoadRect hl) k) Q) :=
  load_held c rwM _ (Memref.readAt_unit_zero (Elt F) cc0_stg1_0 zero2 _ f)
theorem load_ri {α : Type} {Q : α → sProp 𝕄} {hl} {k : (S1024x1.Idx → Elt F .i32) → Prog (TpuEff nD τ sig (Elt F) Λ₀ .tc) α} {f : Vec F S1024x1 .i32} :
    (hold c cc0_stg2_0 f : sProp 𝕄) ⊢ iprop((hold c cc0_stg2_0 f -∗ run c (k f) Q)
      -∗ run c (.op (.load riM (Rect.unit (s := S1024x1) ![0, 0] S1024x1.size inb_S1024x1_S1024x1_0_0).toLoadRect hl) k) Q) :=
  load_held c riM _ (Memref.readAt_unit_zero (Elt F) cc0_stg2_0 zero2 _ f)
theorem load_sw {α : Type} {Q : α → sProp 𝕄} {hl} {k : (S512x1024.Idx → Elt F .f32) → Prog (TpuEff nD τ sig (Elt F) Λ₀ .tc) α} {f : Vec F S512x1024 .f32} :
    (hold c cc0_stg4_0 f : sProp 𝕄) ⊢ iprop((hold c cc0_stg4_0 f -∗ run c (k f) Q)
      -∗ run c (.op (.load swM (Rect.unit (s := S512x1024) ![0, 0] S512x1024.size inb_S512x1024_S512x1024_0_0).toLoadRect hl) k) Q) :=
  load_held c swM _ (Memref.readAt_unit_zero (Elt F) cc0_stg4_0 zero2 _ f)
theorem load_o {α : Type} {Q : α → sProp 𝕄} {hl} {k : (S1024x1024.Idx → Elt F .f32) → Prog (TpuEff nD τ sig (Elt F) Λ₀ .tc) α} {f : Vec F S1024x1024 .f32} :
    (hold c cc0_stg5_0 f : sProp 𝕄) ⊢ iprop((hold c cc0_stg5_0 f -∗ run c (k f) Q)
      -∗ run c (.op (.load oM (Rect.unit (s := S1024x1024) ![0, 0] S1024x1024.size inb_S1024x1024_S1024x1024_0_0).toLoadRect hl) k) Q) :=
  load_held c oM _ (Memref.readAt_unit_zero (Elt F) cc0_stg5_0 zero2 _ f)

/-- A store over all of the result's buffer leaves what was stored. -/
theorem store_o {α : Type} {Q : α → sProp 𝕄} {w : S1024x1024.Idx → Elt F .f32} {hx} {hm} {k : PUnit → Prog (TpuEff nD τ sig (Elt F) Λ₀ .tc) α} {f : Vec F S1024x1024 .f32} :
    (hold c cc0_stg5_0 f : sProp 𝕄) ⊢ iprop((hold c cc0_stg5_0 w -∗ run c (k ⟨⟩) Q)
      -∗ run c (.op (.store oM (Rect.unit (s := S1024x1024) ![0, 0] S1024x1024.size inb_S1024x1024_S1024x1024_0_0) w Finset.univ hx hm) k) Q) := by
  have h : (oM.access (Rect.unit (s := S1024x1024) ![0, 0] S1024x1024.size inb_S1024x1024_S1024x1024_0_0)).write (Elt F) f w Finset.univ = w :=
    Memref.write_access_unit_zero_univ (Elt F) cc0_stg5_0 zero2 inb_S1024x1024_S1024x1024_0_0 f w
  iintro H Hk
  iapply (wp_store 𝒱₀ (c : Thread nD τ) none Set.univ (m := oM) (r := Rect.unit (s := S1024x1024) ![0, 0] S1024x1024.size inb_S1024x1024_S1024x1024_0_0)
    (Mk := Finset.univ) (Finset.subset_univ _)) $$ H
  iintro H
  rw [h]
  iapply Hk; iexact H

theorem wt_read (j : Fin 4) (inb : ∀ a, (![j.val, 0, 0] : Fin 3 → Nat) a + S1x512x1024.size a ≤ S4x512x1024.size a) :
    ewM.view.readAt (Elt F) (Rect.unit (s := S4x512x1024) ![j.val, 0, 0] S1x512x1024.size inb).toLoadRect (I.ew c) = wt I j c := by
  funext i
  show I.ew c _ = I.ew c _
  congr 1

/-- A load of an expert's weights. -/
theorem load_ew (j : Fin 4) {α : Type} {Q : α → sProp 𝕄} {inb} {hl} {k : (S1x512x1024.Idx → Elt F .f32) → Prog (TpuEff nD τ sig (Elt F) Λ₀ .tc) α} :
    (hold c cc0_stg3_0 (I.ew c) : sProp 𝕄) ⊢ iprop((hold c cc0_stg3_0 (I.ew c) -∗ run c (k (wt I j c)) Q)
      -∗ run c (.op (.load ewM (Rect.unit (s := S4x512x1024) ![j.val, 0, 0] S1x512x1024.size inb).toLoadRect hl) k) Q) :=
  load_held c ewM _ (wt_read I c j inb)

/-- A finished run needs what is claimed of its value. -/
theorem run_ret {α : Type} {Q : α → sProp 𝕄} {v v' : α} (h : v' = v) : Q v ⊢ run (F := F) c (.ret v') Q := by
  subst h
  show _ ⊢ wp _ _ _ _ _
  rw [wp_ret]
  iintro H; imodintro; iexact H

/-- A slot read and then overwritten holds what was stored. -/
theorem fill_slot {α : Type} {Q : α → sProp 𝕄} {s : Shape} {e : EltTy} (M : Memref sig .tc .vmem s e) (r : Rect s) (hr : ∀ a, r.stride a = 1) {hl}
    {X w : r.shape.Idx → Elt F e} {hx} {hm} {k : PUnit → Prog (TpuEff nD τ sig (Elt F) Λ₀ .tc) α} :
    (own c (M.slice r hr) X : sProp 𝕄)
      ⊢ iprop((own c (M.slice r hr) w -∗ run c (k ⟨⟩) Q)
        -∗ run c (.op (.load M r.toLoadRect hl) fun _ => .op (.store M r w Finset.univ hx hm) k) Q) := by
  iintro H Hk
  iapply (wp_load_slot 𝒱₀ (c : Thread nD τ) none Set.univ M r hr) $$ H; iintro H
  iapply (wp_store_slot 𝒱₀ (c : Thread nD τ) none Set.univ M r hr) $$ H; iintro H
  iapply Hk; iexact H

/-! ## Up to the first transfer -/

set_option maxHeartbeats 1600000 in
/-- Part 1: the handshake; the tokens and the router weights read. -/
theorem step1 {Kt : _ → sProp 𝕄} :
    iprop(records I K ∗ levAts L lv ∗ ow c (dues c)
        ∗ (tok (sh 0 c) .bar 0 ∗ tok (sh 1 c) .bar 1 ∗ tok (sh 2 c) .bar 2)
        ∗ ((∃ X, own c (prS 0) X) ∗ (∃ X, own c (prS 1) X) ∗ (∃ X, own c (prS 2) X))
        ∗ ((∃ X, own c (yrS 0) X) ∗ (∃ X, own c (yrS 1) X) ∗ (∃ X, own c (yrS 2) X))
        ∗ crd c .bar 3 ∗ pos c .bar ∗ hold c cc0_stg0_0 (I.x c) ∗ hold c cc0_stg1_0 (I.rw c)
        ∗ ((ow c (forth c) ∗ semVal (cell c .bar) 0 ∗ (barPay 0 c ∗ barPay 1 c ∗ barPay 2 c)
            ∗ hold c cc0_stg0_0 (I.x c) ∗ hold c cc0_stg1_0 (I.rw c))
          -∗ Kt ⟨c, me c, k0_pay2 (I.x c), k0_pay3 (I.x c) (I.rw c), k0_pay4 (I.x c) (I.rw c)⟩))
      ⊢ run c (k0_part1 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8) Kt := by
  rw [k0_part1_eq_skeleton]; unfold k0_part1_skel
  simp only [semSignalWord, semWaitWord, Prog.lift, Prog.bind_op, Prog.bind_ret, Prog.pure_eq_ret, wp_deviceId]
  iintro ⟨#HR, #HL, HO, ⟨Ht0, Ht1, Ht2⟩, ⟨Hp0, Hp1, Hp2⟩, ⟨Hy0, Hy1, Hy2⟩, Hc, Ha, Hx, Hw, Hk⟩
  iapply (signal_bar I K c 0 _ (dev1_eq c) _) $$ [HO Ht0 Hp2 Hy0]
  · isplitr; · iexact HR
    isplitl [HO]; · iexact HO
    isplitl [Ht0]; · iexact Ht0
    isplitl [Hp2]
    · iexact Hp2
    · iexact Hy0
  iintro HO
  iapply (signal_bar I K c 1 _ (dev2_eq c) _) $$ [HO Ht1 Hp1 Hy1]
  · isplitr; · iexact HR
    isplitl [HO]; · iexact HO
    isplitl [Ht1]; · iexact Ht1
    isplitl [Hp1]
    · iexact Hp1
    · iexact Hy1
  iintro HO
  iapply (signal_bar I K c 2 _ (dev3_eq c) _) $$ [HO Ht2 Hp0 Hy2]
  · isplitr; · iexact HR
    isplitl [HO]; · iexact HO
    isplitl [Ht2]; · iexact Ht2
    isplitl [Hp0]
    · iexact Hp0
    · iexact Hy2
  iintro HO
  iapply (wait_bar I K c (forth c) (forth_above c (by decide))) $$ [HO Hc Ha]
  · isplitr; · iexact HR
    isplitr; · iexact HL
    isplitl [HO]; · iexact HO
    isplitl [Hc] <;> iassumption
  iintro ⟨HO, Hz, HB⟩
  iapply (load_x c) $$ Hx; iintro Hx
  iapply (load_rw c) $$ Hw; iintro Hw
  iapply (run_ret c (v := ⟨c, me c, k0_pay2 (I.x c), k0_pay3 (I.x c) (I.rw c), k0_pay4 (I.x c) (I.rw c)⟩) (by rfl))
  iapply Hk
  isplitl [HO]; · iexact HO
  isplitl [Hz]; · iexact Hz
  isplitl [HB]; · iexact HB
  isplitl [Hx] <;> iassumption

set_option maxHeartbeats 800000 in
/-- Part 2: the routes read; the rows to pack, the destinations, the order of the devices. -/
theorem step2 {Kt : _ → sProp 𝕄} :
    iprop(hold c cc0_stg2_0 (I.ri c) ∗ ((hold c cc0_stg2_0 (I.ri c))
          -∗ Kt ⟨pl I c, dest I c, order c⟩))
      ⊢ run c (k0_part2 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (k0_pay2 (I.x c)) (k0_pay3 (I.x c) (I.rw c)) (k0_pay4 (I.x c) (I.rw c))) Kt := by
  rw [k0_part2_eq_skeleton]; unfold k0_part2_skel
  simp only [Prog.lift, Prog.bind_op, Prog.bind_ret, Prog.pure_eq_ret]
  iintro ⟨Hri, Hk⟩
  iapply (load_ri c) $$ Hri; iintro Hri
  iapply (load_ri c) $$ Hri; iintro Hri
  iapply (load_ri c) $$ Hri; iintro Hri
  iapply (run_ret c (v := ⟨pl I c, dest I c, order c⟩) (by rfl))
  iapply Hk
  iexact Hri

set_option maxHeartbeats 800000 in
/-- Part 3: the one-hot matrix and the packed rows for the device one ahead. -/
theorem step3 {Kt : _ → sProp 𝕄} :
    iprop((∃ X, own c (ohS 1) X) ∗ (∃ X, own c (psS 1) X)
      ∗ ((own c (ohS 1) (oh1 I c) ∗ own c (psS 1) (psr I 0 c))
          -∗ Kt ⟨hit I c, rank I c, places, Scalar.remsi (Scalar.addi (me c) 1#32) 4#32⟩))
      ⊢ run c (k0_part3 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (pl I c) (dest I c) (order c)) Kt := by
  rw [k0_part3_eq_skeleton]; unfold k0_part3_skel
  simp only [Prog.lift, Prog.bind_op, Prog.bind_ret, Prog.pure_eq_ret]
  iintro ⟨Hoh, Hps, Hk⟩
  icases Hoh with ⟨%X, Hoh⟩
  iapply (fill_slot c ohM (ohR 1 _) (fun _ => rfl)) $$ Hoh; iintro Hoh
  icases Hps with ⟨%X, Hps⟩
  iapply (fill_slot c psM (psR 1 _) (fun _ => rfl)) $$ Hps; iintro Hps
  iapply (run_ret c (v := ⟨hit I c, rank I c, places, Scalar.remsi (Scalar.addi (me c) 1#32) 4#32⟩) (by rfl))
  iapply Hk
  isplitl [Hoh]; · iexact Hoh
  iexact Hps

set_option maxHeartbeats 800000 in
/-- Part 4: the transfer to the device one ahead; the one-hot matrix and the packed rows for the device two ahead. -/
theorem step4 {Kt : _ → sProp 𝕄} (l : List (GSem nD τ sig × ℕ)) :
    iprop(records I K ∗ ow c ((cell (sh 0 c) (.rcv 0), NP) :: l) ∗ own c (psS 1) (psr I 0 c) ∗ (∃ X, own (sh 0 c) (prS 0) X) ∗ tok c (.snd 0) 0
      ∗ tok (sh 0 c) (.rcv 0) 0 ∗ (∃ X, own c (ohS 2) X) ∗ (∃ X, own c (psS 2) X)
      ∗ ((ow c l ∗ crd c (.snd 0) NP ∗ own c (ohS 2) (oh2 I c) ∗ own c (psS 2) (psr I 1 c))
          -∗ Kt (Scalar.remsi (Scalar.addi (me c) 2#32) 4#32)))
      ⊢ run c (k0_part4 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) (pl I c) (hit I c) (rank I c) places) Kt := by
  rw [k0_part4_eq_skeleton]; unfold k0_part4_skel
  simp only [Prog.lift, Prog.bind_op, Prog.bind_ret, Prog.pure_eq_ret]
  iintro ⟨#HR, HO, Hs, Hd, Ht, Ht', Hoh, Hps, Hk⟩
  icases Hd with ⟨%X, Hd⟩
  iapply (send_forth I K c 0 _ (dev4_eq c) l) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  icases Hoh with ⟨%X, Hoh⟩
  iapply (fill_slot c ohM (ohR 2 _) (fun _ => rfl)) $$ Hoh; iintro Hoh
  icases Hps with ⟨%X, Hps⟩
  iapply (fill_slot c psM (psR 2 _) (fun _ => rfl)) $$ Hps; iintro Hps
  iapply (run_ret c (v := (Scalar.remsi (Scalar.addi (me c) 2#32) 4#32)) (by rfl))
  iapply Hk
  isplitl [HO]; · iexact HO
  isplitl [Hc]; · iexact Hc
  isplitl [Hoh]; · iexact Hoh
  iexact Hps

set_option maxHeartbeats 800000 in
/-- Part 5: the transfer to the device two ahead; the one-hot matrix and the packed rows for the device three ahead. -/
theorem step5 {Kt : _ → sProp 𝕄} (l : List (GSem nD τ sig × ℕ)) :
    iprop(records I K ∗ ow c ((cell (sh 1 c) (.rcv 1), NP) :: l) ∗ own c (psS 2) (psr I 1 c) ∗ (∃ X, own (sh 1 c) (prS 1) X) ∗ tok c (.snd 1) 0
      ∗ tok (sh 1 c) (.rcv 1) 0 ∗ (∃ X, own c (ohS 3) X) ∗ (∃ X, own c (psS 3) X)
      ∗ ((ow c l ∗ crd c (.snd 1) NP ∗ own c (ohS 3) (oh3 I c) ∗ own c (psS 3) (psr I 2 c))
          -∗ Kt (Scalar.remsi (Scalar.addi (me c) 3#32) 4#32)))
      ⊢ run c (k0_part5 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) (pl I c) (hit I c) (rank I c) places) Kt := by
  rw [k0_part5_eq_skeleton]; unfold k0_part5_skel
  simp only [Prog.lift, Prog.bind_op, Prog.bind_ret, Prog.pure_eq_ret]
  iintro ⟨#HR, HO, Hs, Hd, Ht, Ht', Hoh, Hps, Hk⟩
  icases Hd with ⟨%X, Hd⟩
  iapply (send_forth I K c 1 _ (dev5_eq c) l) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  icases Hoh with ⟨%X, Hoh⟩
  iapply (fill_slot c ohM (ohR 3 _) (fun _ => rfl)) $$ Hoh; iintro Hoh
  icases Hps with ⟨%X, Hps⟩
  iapply (fill_slot c psM (psR 3 _) (fun _ => rfl)) $$ Hps; iintro Hps
  iapply (run_ret c (v := (Scalar.remsi (Scalar.addi (me c) 3#32) 4#32)) (by rfl))
  iapply Hk
  isplitl [HO]; · iexact HO
  isplitl [Hc]; · iexact Hc
  isplitl [Hoh]; · iexact Hoh
  iexact Hps

set_option maxHeartbeats 800000 in
/-- Part 6: the transfer to the device three ahead; the one-hot matrix and the packed rows the device keeps. -/
theorem step6 {Kt : _ → sProp 𝕄} (l : List (GSem nD τ sig × ℕ)) :
    iprop(records I K ∗ ow c ((cell (sh 2 c) (.rcv 2), NP) :: l) ∗ own c (psS 3) (psr I 2 c) ∗ (∃ X, own (sh 2 c) (prS 2) X) ∗ tok c (.snd 2) 0
      ∗ tok (sh 2 c) (.rcv 2) 0 ∗ (∃ X, own c (ohS 0) X) ∗ (∃ X, own c (psS 0) X)
      ∗ ((ow c l ∗ crd c (.snd 2) NP ∗ own c (ohS 0) (oh0 I c) ∗ own c (psS 0) (ps0 I c))
          -∗ Kt ⟨k0_pay23 (ps0 I c), k0_pay24 (ps0 I c), k0_pay25 (ps0 I c), k0_pay26 (me c) (ps0 I c)⟩))
      ⊢ run c (k0_part6 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) (pl I c) (hit I c) (rank I c) places) Kt := by
  rw [k0_part6_eq_skeleton]; unfold k0_part6_skel
  simp only [Prog.lift, Prog.bind_op, Prog.bind_ret, Prog.pure_eq_ret]
  iintro ⟨#HR, HO, Hs, Hd, Ht, Ht', Hoh, Hps, Hk⟩
  icases Hd with ⟨%X, Hd⟩
  iapply (send_forth I K c 2 _ (dev6_eq c) l) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  icases Hoh with ⟨%X, Hoh⟩
  iapply (fill_slot c ohM (ohR 0 _) (fun _ => rfl)) $$ Hoh; iintro Hoh
  icases Hps with ⟨%X, Hps⟩
  iapply (fill_slot c psM (psR 0 _) (fun _ => rfl)) $$ Hps; iintro Hps
  iapply (wp_load_slot 𝒱₀ (c : Thread nD τ) none Set.univ psM (psR 0 _) (fun _ => rfl)) $$ Hps; iintro Hps
  iapply (run_ret c (v := ⟨k0_pay23 (ps0 I c), k0_pay24 (ps0 I c), k0_pay25 (ps0 I c), k0_pay26 (me c) (ps0 I c)⟩) (by rfl))
  iapply Hk
  isplitl [HO]; · iexact HO
  isplitl [Hc]; · iexact Hc
  isplitl [Hoh]; · iexact Hoh
  iexact Hps

/-! ## The rows kept, the shared part -/

set_option maxHeartbeats 800000 in
/-- Part 7: the first three experts on the kept rows. -/
theorem step7 {Kt : _ → sProp 𝕄} :
    iprop(hold c cc0_stg3_0 (I.ew c)
      ∗ ((hold c cc0_stg3_0 (I.ew c))
          -∗ Kt ⟨k0_pay27 (me c) (k0_pay23 (ps0 I c)) (k0_pay24 (ps0 I c)) (k0_pay25 (ps0 I c)) (k0_pay26 (me c) (ps0 I c)) (wt I 0 c) (wt I 1 c) (wt I 2 c),
            k0_pay28 (me c) (k0_pay23 (ps0 I c)) (k0_pay24 (ps0 I c)) (k0_pay25 (ps0 I c))⟩))
      ⊢ run c (k0_part7 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (k0_pay23 (ps0 I c)) (k0_pay24 (ps0 I c)) (k0_pay25 (ps0 I c)) (k0_pay26 (me c) (ps0 I c))) Kt := by
  rw [k0_part7_eq_skeleton]; unfold k0_part7_skel
  simp only [Prog.lift, Prog.bind_op, Prog.bind_ret, Prog.pure_eq_ret]
  iintro ⟨Hew, Hk⟩
  iapply (load_ew I c 0) $$ Hew; iintro Hew
  iapply (load_ew I c 1) $$ Hew; iintro Hew
  iapply (load_ew I c 2) $$ Hew; iintro Hew
  iapply (run_ret c (v := ⟨k0_pay27 (me c) (k0_pay23 (ps0 I c)) (k0_pay24 (ps0 I c)) (k0_pay25 (ps0 I c)) (k0_pay26 (me c) (ps0 I c)) (wt I 0 c) (wt I 1 c) (wt I 2 c),
            k0_pay28 (me c) (k0_pay23 (ps0 I c)) (k0_pay24 (ps0 I c)) (k0_pay25 (ps0 I c))⟩) (by rfl))
  iapply Hk
  iexact Hew

set_option maxHeartbeats 800000 in
/-- Part 8: the fourth expert; the shared part and the kept rows combined into the result. -/
theorem step8 {Kt : _ → sProp 𝕄} {f : Vec F S1024x1024 .f32} :
    iprop(hold c cc0_stg3_0 (I.ew c) ∗ (∃ X, own c (ysS 0) X) ∗ hold c cc0_stg4_0 (I.sw c) ∗ hold c cc0_stg5_0 (f) ∗ own c (ohS 0) (oh0 I c)
      ∗ ((hold c cc0_stg3_0 (I.ew c) ∗ own c (ysS 0) (ys0 I c) ∗ hold c cc0_stg4_0 (I.sw c) ∗ hold c cc0_stg5_0 (out0 I c) ∗ own c (ohS 0) (oh0 I c))
          -∗ Kt ⟨⟩))
      ⊢ run c (k0_part8 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (k0_pay2 (I.x c))
        (k0_pay27 (me c) (k0_pay23 (ps0 I c)) (k0_pay24 (ps0 I c)) (k0_pay25 (ps0 I c)) (k0_pay26 (me c) (ps0 I c)) (wt I 0 c) (wt I 1 c) (wt I 2 c))
        (k0_pay28 (me c) (k0_pay23 (ps0 I c)) (k0_pay24 (ps0 I c)) (k0_pay25 (ps0 I c)))) Kt := by
  rw [k0_part8_eq_skeleton]; unfold k0_part8_skel
  simp only [Prog.lift, Prog.bind_op, Prog.bind_ret, Prog.pure_eq_ret]
  iintro ⟨Hew, Hys, Hsw, Ho, Hoh, Hk⟩
  iapply (load_ew I c 3) $$ Hew; iintro Hew
  icases Hys with ⟨%X, Hys⟩
  iapply (fill_slot c ysM (ysR 0 _) (fun _ => rfl)) $$ Hys; iintro Hys
  iapply (load_sw c) $$ Hsw; iintro Hsw
  iapply (load_o c) $$ Ho; iintro Ho
  iapply (store_o c) $$ Ho; iintro Ho
  iapply (load_o c) $$ Ho; iintro Ho
  iapply (wp_load_slot 𝒱₀ (c : Thread nD τ) none Set.univ ohM (ohR 0 _) (fun _ => rfl)) $$ Hoh; iintro Hoh
  iapply (wp_load_slot 𝒱₀ (c : Thread nD τ) none Set.univ ysM (ysR 0 _) (fun _ => rfl)) $$ Hys; iintro Hys
  iapply (load_o c) $$ Ho; iintro Ho
  iapply (store_o c) $$ Ho; iintro Ho
  iapply (run_ret c (v := ⟨⟩) (by rfl))
  iapply Hk
  isplitl [Hew]; · iexact Hew
  isplitl [Hys]; · iexact Hys
  isplitl [Hsw]; · iexact Hsw
  isplitl [Ho]; · iexact Ho
  iexact Hoh

end Cert.KernelIdeal.Moe

end
-- ==== Proof.KernelIdeal.Recv.lean ====
/-
# Recv: the second half of the body — the rows that arrive, their return, the combination
-/
module

public import proofs.«01_k».proof.Proof.KernelIdeal.Send

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-! ## The rows that arrive -/

set_option maxHeartbeats 800000 in
/-- Part 9: the rows sent one ahead and those from one behind are there; the first expert on the latter. -/
theorem step9 {Kt : _ → sProp 𝕄} (l : List (GSem nD τ sig × ℕ)) (hl : ∀ a ∈ l, a.1.1.2 = .tc ∧ 2 < lv a.1 ()) (v : BitVec 32) :
    iprop(records I K ∗ levAts L lv ∗ ow c l ∗ crd c (.snd 0) NP ∗ pos c (.snd 0) ∗ crd c (.rcv 0) NP ∗ pos c (.rcv 0) ∗ hold c cc0_stg3_0 (I.ew c)
      ∗ ((ow c l ∗ semVal (cell c (.snd 0)) 0 ∗ semVal (cell c (.rcv 0)) 0 ∗ own c (psS 1) (psr I 0 c) ∗ own c (prS 0) (psr I 0 (sh 2 c))
          ∗ hold c cc0_stg3_0 (I.ew c))
          -∗ Kt ⟨k0_pay33 (psr I 0 (sh 2 c)), k0_pay34 (psr I 0 (sh 2 c)), k0_pay35 (psr I 0 (sh 2 c)), k0_pay36 (me c) (psr I 0 (sh 2 c)) (wt I 0 c), k0_pay37 (me c) (psr I 0 (sh 2 c))⟩))
      ⊢ run c (k0_part9 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) v) Kt := by
  rw [k0_part9_eq_skeleton]; unfold k0_part9_skel
  simp only [Prog.lift, Prog.bind_op, Prog.bind_ret, Prog.pure_eq_ret]
  iintro ⟨#HR, #HL, HO, Hc1, Ha1, Hc2, Ha2, Hew, Hk⟩
  iapply (wait_dma I K c (.snd 0) (by decide) rfl l (fun a ha => ⟨(hl a ha).1, lt_of_le_of_lt (by decide) (hl a ha).2⟩) (by first | (unfold amt NP; rfl) | (unfold amt NY; rfl)) (n := NP) rfl (P := own c (psS 1) (psr I 0 c)) rfl) $$ [HO Hc1 Ha1]
  · isplitr; · iexact HR
    isplitr; · iexact HL
    isplitl [HO]; · iexact HO
    isplitl [Hc1] <;> iassumption
  iintro ⟨HO, Hz1, Hs⟩
  iapply (wait_dma I K c (.rcv 0) (by decide) rfl l (fun a ha => ⟨(hl a ha).1, lt_of_le_of_lt (by decide) (hl a ha).2⟩) (by first | (unfold amt NP; rfl) | (unfold amt NY; rfl)) (n := NP) rfl (P := own c (prS 0) (psr I 0 (sh 2 c))) rfl) $$ [HO Hc2 Ha2]
  · isplitr; · iexact HR
    isplitr; · iexact HL
    isplitl [HO]; · iexact HO
    isplitl [Hc2] <;> iassumption
  iintro ⟨HO, Hz2, Hpr⟩
  iapply (wp_load_slot 𝒱₀ (c : Thread nD τ) none Set.univ prM (prR 0 _) (fun _ => rfl)) $$ Hpr; iintro Hpr
  iapply (load_ew I c 0) $$ Hew; iintro Hew
  iapply (run_ret c (v := ⟨k0_pay33 (psr I 0 (sh 2 c)), k0_pay34 (psr I 0 (sh 2 c)), k0_pay35 (psr I 0 (sh 2 c)), k0_pay36 (me c) (psr I 0 (sh 2 c)) (wt I 0 c), k0_pay37 (me c) (psr I 0 (sh 2 c))⟩) (by rfl))
  iapply Hk
  isplitl [HO]; · iexact HO
  isplitl [Hz1]; · iexact Hz1
  isplitl [Hz2]; · iexact Hz2
  isplitl [Hs]; · iexact Hs
  isplitl [Hpr]; · iexact Hpr
  iexact Hew

set_option maxHeartbeats 800000 in
/-- Part 10: the other experts on them. -/
theorem step10 {Kt : _ → sProp 𝕄} :
    iprop(hold c cc0_stg3_0 (I.ew c) ∗ (∃ X, own c (ysS 1) X) ∗ ((hold c cc0_stg3_0 (I.ew c) ∗ (∃ X, own c (ysS 1) X))
          -∗ Kt (ysr I 0 c)))
      ⊢ run c (k0_part10 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (k0_pay33 (psr I 0 (sh 2 c))) (k0_pay34 (psr I 0 (sh 2 c))) (k0_pay35 (psr I 0 (sh 2 c))) (k0_pay36 (me c) (psr I 0 (sh 2 c)) (wt I 0 c)) (k0_pay37 (me c) (psr I 0 (sh 2 c)))) Kt := by
  rw [k0_part10_eq_skeleton]; unfold k0_part10_skel
  simp only [Prog.lift, Prog.bind_op, Prog.bind_ret, Prog.pure_eq_ret]
  iintro ⟨Hew, Hys, Hk⟩
  iapply (load_ew I c 1) $$ Hew; iintro Hew
  iapply (load_ew I c 2) $$ Hew; iintro Hew
  iapply (load_ew I c 3) $$ Hew; iintro Hew
  icases Hys with ⟨%X, Hys⟩
  iapply (wp_load_slot 𝒱₀ (c : Thread nD τ) none Set.univ ysM (ysR 1 _) (fun _ => rfl)) $$ Hys; iintro Hys
  iapply (run_ret c (v := (ysr I 0 c)) (by rfl))
  iapply Hk
  isplitl [Hew]; · iexact Hew
  iexists X; iexact Hys

set_option maxHeartbeats 800000 in
/-- Part 11: they are returned one behind; the rows sent two ahead are there. -/
theorem step11 {Kt : _ → sProp 𝕄} (l : List (GSem nD τ sig × ℕ)) (hl : ∀ a ∈ l, a.1.1.2 = .tc ∧ 2 < lv a.1 ()) (v : BitVec 32) :
    iprop(records I K ∗ levAts L lv ∗ ow c ((cell (sh 2 c) (.brcv 0), NY) :: l) ∗ (∃ X, own c (ysS 1) X) ∗ (∃ X, own (sh 2 c) (yrS 0) X) ∗ tok c (.bsnd 0) 0
      ∗ tok (sh 2 c) (.brcv 0) 0 ∗ crd c (.snd 1) NP ∗ pos c (.snd 1)
      ∗ ((ow c l ∗ crd c (.bsnd 0) NY ∗ semVal (cell c (.snd 1)) 0 ∗ own c (psS 2) (psr I 1 c))
          -∗ Kt (Scalar.remsi (Scalar.subi (Scalar.addi (me c) 4#32) 1#32) 4#32)))
      ⊢ run c (k0_part11 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) v (ysr I 0 c)) Kt := by
  rw [k0_part11_eq_skeleton]; unfold k0_part11_skel
  simp only [Prog.lift, Prog.bind_op, Prog.bind_ret, Prog.pure_eq_ret]
  iintro ⟨#HR, #HL, HO, Hys, Hd, Ht, Ht', Hc1, Ha1, Hk⟩
  icases Hys with ⟨%Y, Hs⟩
  iapply (wp_store_slot 𝒱₀ (c : Thread nD τ) none Set.univ ysM (ysR 1 _) (fun _ => rfl)) $$ Hs; iintro Hs
  icases Hd with ⟨%X, Hd⟩
  iapply (send_back I K c 0 _ (dev7_eq c) l) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply (wait_dma I K c (.snd 1) (by decide) rfl l (fun a ha => ⟨(hl a ha).1, lt_of_le_of_lt (by decide) (hl a ha).2⟩) (by first | (unfold amt NP; rfl) | (unfold amt NY; rfl)) (n := NP) rfl (P := own c (psS 2) (psr I 1 c)) rfl) $$ [HO Hc1 Ha1]
  · isplitr; · iexact HR
    isplitr; · iexact HL
    isplitl [HO]; · iexact HO
    isplitl [Hc1] <;> iassumption
  iintro ⟨HO, Hz1, Hs⟩
  iapply (run_ret c (v := (Scalar.remsi (Scalar.subi (Scalar.addi (me c) 4#32) 1#32) 4#32)) (by rfl))
  iapply Hk
  isplitl [HO]; · iexact HO
  isplitl [Hc]; · iexact Hc
  isplitl [Hz1]; · iexact Hz1
  iexact Hs

set_option maxHeartbeats 800000 in
/-- Part 12: the rows from two behind are there; the first two experts on them. -/
theorem step12 {Kt : _ → sProp 𝕄} (l : List (GSem nD τ sig × ℕ)) (hl : ∀ a ∈ l, a.1.1.2 = .tc ∧ 2 < lv a.1 ()) :
    iprop(records I K ∗ levAts L lv ∗ ow c l ∗ crd c (.rcv 1) NP ∗ pos c (.rcv 1) ∗ hold c cc0_stg3_0 (I.ew c)
      ∗ ((ow c l ∗ semVal (cell c (.rcv 1)) 0 ∗ own c (prS 1) (psr I 1 (sh 1 c)) ∗ hold c cc0_stg3_0 (I.ew c))
          -∗ Kt ⟨k0_pay40 (psr I 1 (sh 1 c)), k0_pay41 (psr I 1 (sh 1 c)), k0_pay42 (psr I 1 (sh 1 c)), k0_pay43 (me c) (psr I 1 (sh 1 c)) (wt I 0 c) (wt I 1 c), k0_pay44 (me c) (psr I 1 (sh 1 c))⟩))
      ⊢ run c (k0_part12 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c)) Kt := by
  rw [k0_part12_eq_skeleton]; unfold k0_part12_skel
  simp only [Prog.lift, Prog.bind_op, Prog.bind_ret, Prog.pure_eq_ret]
  iintro ⟨#HR, #HL, HO, Hc2, Ha2, Hew, Hk⟩
  iapply (wait_dma I K c (.rcv 1) (by decide) rfl l (fun a ha => ⟨(hl a ha).1, lt_of_le_of_lt (by decide) (hl a ha).2⟩) (by first | (unfold amt NP; rfl) | (unfold amt NY; rfl)) (n := NP) rfl (P := own c (prS 1) (psr I 1 (sh 1 c))) rfl) $$ [HO Hc2 Ha2]
  · isplitr; · iexact HR
    isplitr; · iexact HL
    isplitl [HO]; · iexact HO
    isplitl [Hc2] <;> iassumption
  iintro ⟨HO, Hz2, Hpr⟩
  iapply (wp_load_slot 𝒱₀ (c : Thread nD τ) none Set.univ prM (prR 1 _) (fun _ => rfl)) $$ Hpr; iintro Hpr
  iapply (load_ew I c 0) $$ Hew; iintro Hew
  iapply (load_ew I c 1) $$ Hew; iintro Hew
  iapply (run_ret c (v := ⟨k0_pay40 (psr I 1 (sh 1 c)), k0_pay41 (psr I 1 (sh 1 c)), k0_pay42 (psr I 1 (sh 1 c)), k0_pay43 (me c) (psr I 1 (sh 1 c)) (wt I 0 c) (wt I 1 c), k0_pay44 (me c) (psr I 1 (sh 1 c))⟩) (by rfl))
  iapply Hk
  isplitl [HO]; · iexact HO
  isplitl [Hz2]; · iexact Hz2
  isplitl [Hpr]; · iexact Hpr
  iexact Hew

set_option maxHeartbeats 800000 in
/-- Part 13: the other two. -/
theorem step13 {Kt : _ → sProp 𝕄} :
    iprop(hold c cc0_stg3_0 (I.ew c) ∗ (∃ X, own c (ysS 2) X)
      ∗ ((hold c cc0_stg3_0 (I.ew c) ∗ own c (ysS 2) (ysr I 1 c))
          -∗ Kt (Scalar.remsi (Scalar.subi (Scalar.addi (me c) 4#32) 2#32) 4#32)))
      ⊢ run c (k0_part13 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (k0_pay40 (psr I 1 (sh 1 c))) (k0_pay41 (psr I 1 (sh 1 c))) (k0_pay42 (psr I 1 (sh 1 c))) (k0_pay43 (me c) (psr I 1 (sh 1 c)) (wt I 0 c) (wt I 1 c)) (k0_pay44 (me c) (psr I 1 (sh 1 c)))) Kt := by
  rw [k0_part13_eq_skeleton]; unfold k0_part13_skel
  simp only [Prog.lift, Prog.bind_op, Prog.bind_ret, Prog.pure_eq_ret]
  iintro ⟨Hew, Hys, Hk⟩
  iapply (load_ew I c 2) $$ Hew; iintro Hew
  iapply (load_ew I c 3) $$ Hew; iintro Hew
  icases Hys with ⟨%X, Hys⟩
  iapply (fill_slot c ysM (ysR 2 _) (fun _ => rfl)) $$ Hys; iintro Hys
  iapply (run_ret c (v := (Scalar.remsi (Scalar.subi (Scalar.addi (me c) 4#32) 2#32) 4#32)) (by rfl))
  iapply Hk
  isplitl [Hew]; · iexact Hew
  iexact Hys

set_option maxHeartbeats 800000 in
/-- Part 14: they are returned two behind; the rows sent three ahead and those from three behind are there. -/
theorem step14 {Kt : _ → sProp 𝕄} (l : List (GSem nD τ sig × ℕ)) (hl : ∀ a ∈ l, a.1.1.2 = .tc ∧ 2 < lv a.1 ()) (v : BitVec 32) :
    iprop(records I K ∗ levAts L lv ∗ ow c ((cell (sh 1 c) (.brcv 1), NY) :: l) ∗ own c (ysS 2) (ysr I 1 c) ∗ (∃ X, own (sh 1 c) (yrS 1) X) ∗ tok c (.bsnd 1) 0
      ∗ tok (sh 1 c) (.brcv 1) 0 ∗ crd c (.snd 2) NP ∗ pos c (.snd 2) ∗ crd c (.rcv 2) NP ∗ pos c (.rcv 2)
      ∗ ((ow c l ∗ crd c (.bsnd 1) NY ∗ semVal (cell c (.snd 2)) 0 ∗ semVal (cell c (.rcv 2)) 0 ∗ own c (psS 3) (psr I 2 c) ∗ own c (prS 2) (psr I 2 (sh 0 c)))
          -∗ Kt ⟨k0_pay47 (psr I 2 (sh 0 c)), k0_pay48 (psr I 2 (sh 0 c)), k0_pay49 (psr I 2 (sh 0 c)), k0_pay50 (F := F) (me c)⟩))
      ⊢ run c (k0_part14 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) v) Kt := by
  rw [k0_part14_eq_skeleton]; unfold k0_part14_skel
  simp only [Prog.lift, Prog.bind_op, Prog.bind_ret, Prog.pure_eq_ret]
  iintro ⟨#HR, #HL, HO, Hs, Hd, Ht, Ht', Hc1, Ha1, Hc2, Ha2, Hk⟩
  icases Hd with ⟨%X, Hd⟩
  iapply (send_back I K c 1 _ (dev8_eq c) l) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply (wait_dma I K c (.snd 2) (by decide) rfl l (fun a ha => ⟨(hl a ha).1, lt_of_le_of_lt (by decide) (hl a ha).2⟩) (by first | (unfold amt NP; rfl) | (unfold amt NY; rfl)) (n := NP) rfl (P := own c (psS 3) (psr I 2 c)) rfl) $$ [HO Hc1 Ha1]
  · isplitr; · iexact HR
    isplitr; · iexact HL
    isplitl [HO]; · iexact HO
    isplitl [Hc1] <;> iassumption
  iintro ⟨HO, Hz1, Hs⟩
  iapply (wait_dma I K c (.rcv 2) (by decide) rfl l (fun a ha => ⟨(hl a ha).1, lt_of_le_of_lt (by decide) (hl a ha).2⟩) (by first | (unfold amt NP; rfl) | (unfold amt NY; rfl)) (n := NP) rfl (P := own c (prS 2) (psr I 2 (sh 0 c))) rfl) $$ [HO Hc2 Ha2]
  · isplitr; · iexact HR
    isplitr; · iexact HL
    isplitl [HO]; · iexact HO
    isplitl [Hc2] <;> iassumption
  iintro ⟨HO, Hz2, Hpr⟩
  iapply (wp_load_slot 𝒱₀ (c : Thread nD τ) none Set.univ prM (prR 2 _) (fun _ => rfl)) $$ Hpr; iintro Hpr
  iapply (run_ret c (v := ⟨k0_pay47 (psr I 2 (sh 0 c)), k0_pay48 (psr I 2 (sh 0 c)), k0_pay49 (psr I 2 (sh 0 c)), k0_pay50 (F := F) (me c)⟩) (by rfl))
  iapply Hk
  isplitl [HO]; · iexact HO
  isplitl [Hc]; · iexact Hc
  isplitl [Hz1]; · iexact Hz1
  isplitl [Hz2]; · iexact Hz2
  isplitl [Hs]; · iexact Hs
  iexact Hpr

set_option maxHeartbeats 800000 in
/-- Part 15: the first three experts on the latter. -/
theorem step15 {Kt : _ → sProp 𝕄} :
    iprop(hold c cc0_stg3_0 (I.ew c)
      ∗ ((hold c cc0_stg3_0 (I.ew c))
          -∗ Kt ⟨k0_pay51 (me c) (k0_pay47 (psr I 2 (sh 0 c))) (k0_pay48 (psr I 2 (sh 0 c))) (k0_pay49 (psr I 2 (sh 0 c))) (k0_pay50 (F := F) (me c)) (wt I 0 c) (wt I 1 c) (wt I 2 c),
            k0_pay52 (me c) (k0_pay49 (psr I 2 (sh 0 c)))⟩))
      ⊢ run c (k0_part15 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 (me c) (k0_pay47 (psr I 2 (sh 0 c))) (k0_pay48 (psr I 2 (sh 0 c))) (k0_pay49 (psr I 2 (sh 0 c))) (k0_pay50 (F := F) (me c))) Kt := by
  rw [k0_part15_eq_skeleton]; unfold k0_part15_skel
  simp only [Prog.lift, Prog.bind_op, Prog.bind_ret, Prog.pure_eq_ret]
  iintro ⟨Hew, Hk⟩
  iapply (load_ew I c 0) $$ Hew; iintro Hew
  iapply (load_ew I c 1) $$ Hew; iintro Hew
  iapply (load_ew I c 2) $$ Hew; iintro Hew
  iapply (run_ret c (v := ⟨k0_pay51 (me c) (k0_pay47 (psr I 2 (sh 0 c))) (k0_pay48 (psr I 2 (sh 0 c))) (k0_pay49 (psr I 2 (sh 0 c))) (k0_pay50 (F := F) (me c)) (wt I 0 c) (wt I 1 c) (wt I 2 c),
            k0_pay52 (me c) (k0_pay49 (psr I 2 (sh 0 c)))⟩) (by rfl))
  iapply Hk
  iexact Hew

set_option maxHeartbeats 800000 in
/-- Part 16: the fourth; they are returned three behind. -/
theorem step16 {Kt : _ → sProp 𝕄} (l : List (GSem nD τ sig × ℕ)) :
    iprop(records I K ∗ hold c cc0_stg3_0 (I.ew c) ∗ ow c ((cell (sh 0 c) (.brcv 2), NY) :: l) ∗ (∃ X, own c (ysS 3) X) ∗ (∃ X, own (sh 0 c) (yrS 2) X)
      ∗ tok c (.bsnd 2) 0 ∗ tok (sh 0 c) (.brcv 2) 0
      ∗ ((hold c cc0_stg3_0 (I.ew c) ∗ ow c l ∗ crd c (.bsnd 2) NY)
          -∗ Kt (Scalar.remsi (Scalar.subi (Scalar.addi (me c) 4#32) 3#32) 4#32)))
      ⊢ run c (k0_part16 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 c (me c) (k0_pay47 (psr I 2 (sh 0 c))) (k0_pay48 (psr I 2 (sh 0 c)))
        (k0_pay51 (me c) (k0_pay47 (psr I 2 (sh 0 c))) (k0_pay48 (psr I 2 (sh 0 c))) (k0_pay49 (psr I 2 (sh 0 c))) (k0_pay50 (F := F) (me c)) (wt I 0 c) (wt I 1 c) (wt I 2 c))
        (k0_pay52 (me c) (k0_pay49 (psr I 2 (sh 0 c))))) Kt := by
  rw [k0_part16_eq_skeleton]; unfold k0_part16_skel
  simp only [Prog.lift, Prog.bind_op, Prog.bind_ret, Prog.pure_eq_ret]
  iintro ⟨#HR, Hew, HO, Hys, Hd, Ht, Ht', Hk⟩
  iapply (load_ew I c 3) $$ Hew; iintro Hew
  icases Hys with ⟨%X, Hys⟩
  iapply (fill_slot c ysM (ysR 3 _) (fun _ => rfl)) $$ Hys; iintro Hys
  icases Hd with ⟨%X, Hd⟩
  iapply (send_back I K c 2 _ (dev9_eq c) l) $$ [HO Hys Hd Ht Ht']
  · isplitr; · iexact HR
    isplitl [HO]; · iexact HO
    isplitl [Hys]; · iexact Hys
    isplitl [Hd]; · iexact Hd
    isplitl [Ht]; · iexact Ht
    iexact Ht'
  iintro ⟨HO, Hc⟩
  iapply (run_ret c (v := (Scalar.remsi (Scalar.subi (Scalar.addi (me c) 4#32) 3#32) 4#32)) (by rfl))
  iapply Hk
  isplitl [Hew]; · iexact Hew
  isplitl [HO]; · iexact HO
  iexact Hc

/-! ## Combine -/

set_option maxHeartbeats 800000 in
/-- Part 17: the rows back from one ahead are there, and combined into the result. -/
theorem step17 {Kt : _ → sProp 𝕄} (v : BitVec 32) :
    iprop(records I K ∗ levAts L lv ∗ ow c [] ∗ crd c (.bsnd 0) NY ∗ pos c (.bsnd 0) ∗ crd c (.brcv 0) NY ∗ pos c (.brcv 0) ∗ hold c cc0_stg5_0 (out0 I c)
      ∗ own c (ohS 1) (oh1 I c)
      ∗ ((ow c [] ∗ semVal (cell c (.bsnd 0)) 0 ∗ semVal (cell c (.brcv 0)) 0 ∗ own c (ysS 1) (ysr I 0 c) ∗ own c (yrS 0) (ysr I 0 (sh 0 c))
          ∗ hold c cc0_stg5_0 (out1 I c) ∗ own c (ohS 1) (oh1 I c))
          -∗ Kt ⟨⟩))
      ⊢ run c (k0_part17 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 v) Kt := by
  rw [k0_part17_eq_skeleton]; unfold k0_part17_skel
  simp only [Prog.lift, Prog.bind_op, Prog.bind_ret, Prog.pure_eq_ret]
  iintro ⟨#HR, #HL, HO, Hc1, Ha1, Hc2, Ha2, Ho, Hoh, Hk⟩
  iapply (wait_dma I K c (.bsnd 0) (by decide) rfl [] (fun a ha => absurd ha List.not_mem_nil) (by first | (unfold amt NP; rfl) | (unfold amt NY; rfl)) (n := NY) rfl (P := own c (ysS 1) (ysr I 0 c)) rfl) $$ [HO Hc1 Ha1]
  · isplitr; · iexact HR
    isplitr; · iexact HL
    isplitl [HO]; · iexact HO
    isplitl [Hc1] <;> iassumption
  iintro ⟨HO, Hz1, Hs⟩
  iapply (wait_dma I K c (.brcv 0) (by decide) rfl [] (fun a ha => absurd ha List.not_mem_nil) (by first | (unfold amt NP; rfl) | (unfold amt NY; rfl)) (n := NY) rfl (P := own c (yrS 0) (ysr I 0 (sh 0 c))) rfl) $$ [HO Hc2 Ha2]
  · isplitr; · iexact HR
    isplitr; · iexact HL
    isplitl [HO]; · iexact HO
    isplitl [Hc2] <;> iassumption
  iintro ⟨HO, Hz2, Hyr⟩
  iapply (load_o c) $$ Ho; iintro Ho
  iapply (wp_load_slot 𝒱₀ (c : Thread nD τ) none Set.univ ohM (ohR 1 _) (fun _ => rfl)) $$ Hoh; iintro Hoh
  iapply (wp_load_slot 𝒱₀ (c : Thread nD τ) none Set.univ yrM (yrR 0 _) (fun _ => rfl)) $$ Hyr; iintro Hyr
  iapply (load_o c) $$ Ho; iintro Ho
  iapply (store_o c) $$ Ho; iintro Ho
  iapply (run_ret c (v := ⟨⟩) (by rfl))
  iapply Hk
  isplitl [HO]; · iexact HO
  isplitl [Hz1]; · iexact Hz1
  isplitl [Hz2]; · iexact Hz2
  isplitl [Hs]; · iexact Hs
  isplitl [Hyr]; · iexact Hyr
  isplitl [Ho]; · iexact Ho
  iexact Hoh

set_option maxHeartbeats 800000 in
/-- Part 18: those from two ahead likewise; the rows returned three behind are there. -/
theorem step18 {Kt : _ → sProp 𝕄} (v : BitVec 32) :
    iprop(records I K ∗ levAts L lv ∗ ow c [] ∗ crd c (.bsnd 1) NY ∗ pos c (.bsnd 1) ∗ crd c (.brcv 1) NY ∗ pos c (.brcv 1) ∗ crd c (.bsnd 2) NY
      ∗ pos c (.bsnd 2) ∗ hold c cc0_stg5_0 (out1 I c) ∗ own c (ohS 2) (oh2 I c)
      ∗ ((ow c [] ∗ semVal (cell c (.bsnd 1)) 0 ∗ semVal (cell c (.brcv 1)) 0 ∗ semVal (cell c (.bsnd 2)) 0 ∗ own c (ysS 2) (ysr I 1 c)
          ∗ own c (ysS 3) (ysr I 2 c) ∗ own c (yrS 1) (ysr I 1 (sh 1 c)) ∗ hold c cc0_stg5_0 (out2 I c) ∗ own c (ohS 2) (oh2 I c))
          -∗ Kt ⟨⟩))
      ⊢ run c (k0_part18 (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8 v) Kt := by
  rw [k0_part18_eq_skeleton]; unfold k0_part18_skel
  simp only [Prog.lift, Prog.bind_op, Prog.bind_ret, Prog.pure_eq_ret]
  iintro ⟨#HR, #HL, HO, Hc1, Ha1, Hc2, Ha2, Hc3, Ha3, Ho, Hoh, Hk⟩
  iapply (wait_dma I K c (.bsnd 1) (by decide) rfl [] (fun a ha => absurd ha List.not_mem_nil) (by first | (unfold amt NP; rfl) | (unfold amt NY; rfl)) (n := NY) rfl (P := own c (ysS 2) (ysr I 1 c)) rfl) $$ [HO Hc1 Ha1]
  · isplitr; · iexact HR
    isplitr; · iexact HL
    isplitl [HO]; · iexact HO
    isplitl [Hc1] <;> iassumption
  iintro ⟨HO, Hz1, Hs⟩
  iapply (wait_dma I K c (.brcv 1) (by decide) rfl [] (fun a ha => absurd ha List.not_mem_nil) (by first | (unfold amt NP; rfl) | (unfold amt NY; rfl)) (n := NY) rfl (P := own c (yrS 1) (ysr I 1 (sh 1 c))) rfl) $$ [HO Hc2 Ha2]
  · isplitr; · iexact HR
    isplitr; · iexact HL
    isplitl [HO]; · iexact HO
    isplitl [Hc2] <;> iassumption
  iintro ⟨HO, Hz2, Hyr⟩
  iapply (load_o c) $$ Ho; iintro Ho
  iapply (wp_load_slot 𝒱₀ (c : Thread nD τ) none Set.univ ohM (ohR 2 _) (fun _ => rfl)) $$ Hoh; iintro Hoh
  iapply (wp_load_slot 𝒱₀ (c : Thread nD τ) none Set.univ yrM (yrR 1 _) (fun _ => rfl)) $$ Hyr; iintro Hyr
  iapply (load_o c) $$ Ho; iintro Ho
  iapply (store_o c) $$ Ho; iintro Ho
  iapply (wait_dma I K c (.bsnd 2) (by decide) rfl [] (fun a ha => absurd ha List.not_mem_nil) (by first | (unfold amt NP; rfl) | (unfold amt NY; rfl)) (n := NY) rfl (P := own c (ysS 3) (ysr I 2 c)) rfl) $$ [HO Hc3 Ha3]
  · isplitr; · iexact HR
    isplitr; · iexact HL
    isplitl [HO]; · iexact HO
    isplitl [Hc3] <;> iassumption
  iintro ⟨HO, Hz3, Hs'⟩
  iapply (run_ret c (v := ⟨⟩) (by rfl))
  iapply Hk
  isplitl [HO]; · iexact HO
  isplitl [Hz1]; · iexact Hz1
  isplitl [Hz2]; · iexact Hz2
  isplitl [Hz3]; · iexact Hz3
  isplitl [Hs]; · iexact Hs
  isplitl [Hs']; · iexact Hs'
  isplitl [Hyr]; · iexact Hyr
  isplitl [Ho]; · iexact Ho
  iexact Hoh

end Cert.KernelIdeal.Moe

end
-- ==== Proof.KernelIdeal.Body.lean ====
/-
# Body: the parts put together
-/
module

public import proofs.«01_k».proof.Proof.KernelIdeal.Recv

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-! ## What a device starts from and ends with -/

/-- The contributions a device makes: to each other device's barrier, at both ends of its outward and of its return transfers. -/
def toks (c : Dev nD) : sProp 𝕄 :=
  iprop((tok (sh 0 c) .bar 0 ∗ tok (sh 1 c) .bar 1 ∗ tok (sh 2 c) .bar 2) ∗ (tok c (.snd 0) 0 ∗ tok c (.snd 1) 0 ∗ tok c (.snd 2) 0) ∗ (tok (sh 0 c) (.rcv 0) 0 ∗ tok (sh 1 c) (.rcv 1) 0 ∗ tok (sh 2 c) (.rcv 2) 0) ∗ (tok c (.bsnd 0) 0 ∗ tok c (.bsnd 1) 0 ∗ tok c (.bsnd 2) 0) ∗ (tok (sh 2 c) (.brcv 0) 0 ∗ tok (sh 1 c) (.brcv 1) 0 ∗ tok (sh 0 c) (.brcv 2) 0))
/-- What others will contribute to it. -/
def creds (c : Dev nD) : sProp 𝕄 :=
  iprop(crd c .bar 3 ∗ (crd c (.rcv 0) NP ∗ crd c (.rcv 1) NP ∗ crd c (.rcv 2) NP) ∗ (crd c (.brcv 0) NY ∗ crd c (.brcv 1) NY ∗ crd c (.brcv 2) NY))
/-- Its place at each of its semaphores, -/
def places13 (c : Dev nD) : sProp 𝕄 :=
  iprop(pos c .bar ∗ (pos c (.snd 0) ∗ pos c (.snd 1) ∗ pos c (.snd 2)) ∗ (pos c (.rcv 0) ∗ pos c (.rcv 1) ∗ pos c (.rcv 2)) ∗ (pos c (.bsnd 0) ∗ pos c (.bsnd 1) ∗ pos c (.bsnd 2)) ∗ (pos c (.brcv 0) ∗ pos c (.brcv 1) ∗ pos c (.brcv 2)))
/-- and, at the end, each at zero. -/
def zeros13 (c : Dev nD) : sProp 𝕄 :=
  iprop(semVal (cell c .bar) 0 ∗ (semVal (cell c (.snd 0)) 0 ∗ semVal (cell c (.snd 1)) 0 ∗ semVal (cell c (.snd 2)) 0) ∗ (semVal (cell c (.rcv 0)) 0 ∗ semVal (cell c (.rcv 1)) 0 ∗ semVal (cell c (.rcv 2)) 0) ∗ (semVal (cell c (.bsnd 0)) 0 ∗ semVal (cell c (.bsnd 1)) 0 ∗ semVal (cell c (.bsnd 2)) 0) ∗ (semVal (cell c (.brcv 0)) 0 ∗ semVal (cell c (.brcv 1)) 0 ∗ semVal (cell c (.brcv 2)) 0))
/-- Its five working buffers, slot by slot. -/
def slots (c : Dev nD) : sProp 𝕄 :=
  iprop(((∃ X, own c (ohS 0) X) ∗ (∃ X, own c (ohS 1) X) ∗ (∃ X, own c (ohS 2) X) ∗ (∃ X, own c (ohS 3) X))
    ∗ ((∃ X, own c (psS 0) X) ∗ (∃ X, own c (psS 1) X) ∗ (∃ X, own c (psS 2) X) ∗ (∃ X, own c (psS 3) X))
    ∗ ((∃ X, own c (prS 0) X) ∗ (∃ X, own c (prS 1) X) ∗ (∃ X, own c (prS 2) X))
    ∗ ((∃ X, own c (ysS 0) X) ∗ (∃ X, own c (ysS 1) X) ∗ (∃ X, own c (ysS 2) X) ∗ (∃ X, own c (ysS 3) X))
    ∗ ((∃ X, own c (yrS 0) X) ∗ (∃ X, own c (yrS 1) X) ∗ (∃ X, own c (yrS 2) X)))

/-- A run of one program and then another is a run of the first to a run of the second. -/
theorem run_bind {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q :=
  Entails.of_eq (wp_bind _ _ _ p k Q).symm

set_option maxHeartbeats 4000000 in
/-- The body: from its working buffers, its inputs and its share of the protocol to the result, with all buffers back and all semaphores at zero. -/
theorem body_run {Kt : PUnit → sProp 𝕄} (f : Vec F S1024x1024 .f32) :
    iprop(records I K ∗ levAts L lv ∗ ow c (dues c) ∗ toks c ∗ creds c ∗ places13 c ∗ slots c
        ∗ hold c cc0_stg0_0 (I.x c) ∗ hold c cc0_stg1_0 (I.rw c) ∗ hold c cc0_stg2_0 (I.ri c) ∗ hold c cc0_stg3_0 (I.ew c) ∗ hold c cc0_stg4_0 (I.sw c)
        ∗ hold c cc0_stg5_0 f
        ∗ ((ow c [] ∗ zeros13 c ∗ slots c
            ∗ hold c cc0_stg0_0 (I.x c) ∗ hold c cc0_stg1_0 (I.rw c) ∗ hold c cc0_stg2_0 (I.ri c) ∗ hold c cc0_stg3_0 (I.ew c) ∗ hold c cc0_stg4_0 (I.sw c)
            ∗ hold c cc0_stg5_0 (out3 I c)) -∗ Kt ⟨⟩))
      ⊢ run c (cc0_body (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8) Kt := by
  rw [cc0_body_eq_skeleton]; unfold cc0_body_skel
  unfold toks creds places13 zeros13 slots
  have hl1 : ∀ a ∈ [(cell (sh 1 c) (.brcv 1), NY), (cell (sh 0 c) (.brcv 2), NY)], a.1.1.2 = .tc ∧ 2 < lv a.1 () :=
    fun a ha => back_above c (by decide) a (List.mem_cons_of_mem _ ha)
  have hl2 : ∀ a ∈ [(cell (sh 0 c) (.brcv 2), NY)], a.1.1.2 = .tc ∧ 2 < lv a.1 () := fun a ha => hl1 a (List.mem_cons_of_mem _ ha)
  iintro ⟨#HR, #HL, HO, ⟨⟨Htb0, Htb1, Htb2⟩, ⟨Hts0, Hts1, Hts2⟩, ⟨Htr0, Htr1, Htr2⟩, ⟨Htbs0, Htbs1, Htbs2⟩, Htbr0, Htbr1, Htbr2⟩,
    ⟨Hcb, ⟨Hcr0, Hcr1, Hcr2⟩, Hcbr0, Hcbr1, Hcbr2⟩,
    ⟨Hab, ⟨Has0, Has1, Has2⟩, ⟨Har0, Har1, Har2⟩, ⟨Habs0, Habs1, Habs2⟩, Habr0, Habr1, Habr2⟩,
    ⟨⟨Hoh0, Hoh1, Hoh2, Hoh3⟩, ⟨Hps0, Hps1, Hps2, Hps3⟩, ⟨Hpr0, Hpr1, Hpr2⟩, ⟨Hys0, Hys1, Hys2, Hys3⟩, Hyr0, Hyr1, Hyr2⟩,
    Hx, Hrw, Hri, Hew, Hsw, Ho, Hk⟩
  iapply (run_bind c)
  iapply (step1 I K c)
  isplitr; · iexact HR
  isplitr; · iexact HL
  isplitl [HO]; · iexact HO
  isplitl [Htb0 Htb1 Htb2]
  · isplitl [Htb0]; · iexact Htb0
    isplitl [Htb1]; · iexact Htb1
    iexact Htb2
  isplitl [Hpr0 Hpr1 Hpr2]
  · isplitl [Hpr0]; · iexact Hpr0
    isplitl [Hpr1]; · iexact Hpr1
    iexact Hpr2
  isplitl [Hyr0 Hyr1 Hyr2]
  · isplitl [Hyr0]; · iexact Hyr0
    isplitl [Hyr1]; · iexact Hyr1
    iexact Hyr2
  isplitl [Hcb]; · iexact Hcb
  isplitl [Hab]; · iexact Hab
  isplitl [Hx]; · iexact Hx
  isplitl [Hrw]; · iexact Hrw
  iintro ⟨HO, Hzb, ⟨Hb0, Hb1, Hb2⟩, Hx, Hrw⟩
  unfold barPay
  icases Hb0 with ⟨Hd2, Hyd0⟩; icases Hb1 with ⟨Hd1, Hyd1⟩; icases Hb2 with ⟨Hd0, Hyd2⟩
  iapply (run_bind c)
  iapply (step2 I c)
  isplitl [Hri]; · iexact Hri
  iintro Hri
  iapply (run_bind c)
  iapply (step3 I c)
  isplitl [Hoh1]; · iexact Hoh1
  isplitl [Hps1]; · iexact Hps1
  iintro ⟨Hoh1, Hs0⟩
  ihave HO := (Entails.of_eq (show ow c (forth c) = ow c ((cell (sh 0 c) (.rcv 0), NP) :: (cell (sh 1 c) (.rcv 1), NP) :: (cell (sh 2 c) (.rcv 2), NP) :: back c) from rfl)) $$ HO
  iapply (run_bind c)
  iapply (step4 I K c _)
  isplitr; · iexact HR
  isplitl [HO]; · iexact HO
  isplitl [Hs0]; · iexact Hs0
  isplitl [Hd0]; · iexact Hd0
  isplitl [Hts0]; · iexact Hts0
  isplitl [Htr0]; · iexact Htr0
  isplitl [Hoh2]; · iexact Hoh2
  isplitl [Hps2]; · iexact Hps2
  iintro ⟨HO, Hcs0, Hoh2, Hs1⟩
  iapply (run_bind c)
  iapply (step5 I K c _)
  isplitr; · iexact HR
  isplitl [HO]; · iexact HO
  isplitl [Hs1]; · iexact Hs1
  isplitl [Hd1]; · iexact Hd1
  isplitl [Hts1]; · iexact Hts1
  isplitl [Htr1]; · iexact Htr1
  isplitl [Hoh3]; · iexact Hoh3
  isplitl [Hps3]; · iexact Hps3
  iintro ⟨HO, Hcs1, Hoh3, Hs2⟩
  iapply (run_bind c)
  iapply (step6 I K c _)
  isplitr; · iexact HR
  isplitl [HO]; · iexact HO
  isplitl [Hs2]; · iexact Hs2
  isplitl [Hd2]; · iexact Hd2
  isplitl [Hts2]; · iexact Hts2
  isplitl [Htr2]; · iexact Htr2
  isplitl [Hoh0]; · iexact Hoh0
  isplitl [Hps0]; · iexact Hps0
  iintro ⟨HO, Hcs2, Hoh0, Hps0⟩
  iapply (run_bind c)
  iapply (step7 I c)
  isplitl [Hew]; · iexact Hew
  iintro Hew
  iapply (run_bind c)
  iapply (step8 I c)
  isplitl [Hew]; · iexact Hew
  isplitl [Hys0]; · iexact Hys0
  isplitl [Hsw]; · iexact Hsw
  isplitl [Ho]; · iexact Ho
  isplitl [Hoh0]; · iexact Hoh0
  iintro ⟨Hew, Hys0, Hsw, Ho, Hoh0⟩
  iapply (run_bind c)
  iapply (step9 I K c _ (back_above c (by decide)) _)
  isplitr; · iexact HR
  isplitr; · iexact HL
  isplitl [HO]; · iexact HO
  isplitl [Hcs0]; · iexact Hcs0
  isplitl [Has0]; · iexact Has0
  isplitl [Hcr0]; · iexact Hcr0
  isplitl [Har0]; · iexact Har0
  isplitl [Hew]; · iexact Hew
  iintro ⟨HO, Hzs0, Hzr0, Hps1, Hpr0, Hew⟩
  ihave HO := (Entails.of_eq (show ow c (back c) = ow c ((cell (sh 2 c) (.brcv 0), NY) :: (cell (sh 1 c) (.brcv 1), NY) :: (cell (sh 0 c) (.brcv 2), NY) :: []) from rfl)) $$ HO
  iapply (run_bind c)
  iapply (step10 I c)
  isplitl [Hew]; · iexact Hew
  isplitl [Hys1]; · iexact Hys1
  iintro ⟨Hew, Hys1⟩
  iapply (run_bind c)
  iapply (step11 I K c _ hl1 _)
  isplitr; · iexact HR
  isplitr; · iexact HL
  isplitl [HO]; · iexact HO
  isplitl [Hys1]; · iexact Hys1
  isplitl [Hyd0]; · iexact Hyd0
  isplitl [Htbs0]; · iexact Htbs0
  isplitl [Htbr0]; · iexact Htbr0
  isplitl [Hcs1]; · iexact Hcs1
  isplitl [Has1]; · iexact Has1
  iintro ⟨HO, Hcbs0, Hzs1, Hps2⟩
  iapply (run_bind c)
  iapply (step12 I K c _ hl1)
  isplitr; · iexact HR
  isplitr; · iexact HL
  isplitl [HO]; · iexact HO
  isplitl [Hcr1]; · iexact Hcr1
  isplitl [Har1]; · iexact Har1
  isplitl [Hew]; · iexact Hew
  iintro ⟨HO, Hzr1, Hpr1, Hew⟩
  iapply (run_bind c)
  iapply (step13 I c)
  isplitl [Hew]; · iexact Hew
  isplitl [Hys2]; · iexact Hys2
  iintro ⟨Hew, Hys2⟩
  iapply (run_bind c)
  iapply (step14 I K c _ hl2 _)
  isplitr; · iexact HR
  isplitr; · iexact HL
  isplitl [HO]; · iexact HO
  isplitl [Hys2]; · iexact Hys2
  isplitl [Hyd1]; · iexact Hyd1
  isplitl [Htbs1]; · iexact Htbs1
  isplitl [Htbr1]; · iexact Htbr1
  isplitl [Hcs2]; · iexact Hcs2
  isplitl [Has2]; · iexact Has2
  isplitl [Hcr2]; · iexact Hcr2
  isplitl [Har2]; · iexact Har2
  iintro ⟨HO, Hcbs1, Hzs2, Hzr2, Hps3, Hpr2⟩
  iapply (run_bind c)
  iapply (step15 I c)
  isplitl [Hew]; · iexact Hew
  iintro Hew
  iapply (run_bind c)
  iapply (step16 I K c _)
  isplitr; · iexact HR
  isplitl [Hew]; · iexact Hew
  isplitl [HO]; · iexact HO
  isplitl [Hys3]; · iexact Hys3
  isplitl [Hyd2]; · iexact Hyd2
  isplitl [Htbs2]; · iexact Htbs2
  isplitl [Htbr2]; · iexact Htbr2
  iintro ⟨Hew, HO, Hcbs2⟩
  iapply (run_bind c)
  iapply (step17 I K c _)
  isplitr; · iexact HR
  isplitr; · iexact HL
  isplitl [HO]; · iexact HO
  isplitl [Hcbs0]; · iexact Hcbs0
  isplitl [Habs0]; · iexact Habs0
  isplitl [Hcbr0]; · iexact Hcbr0
  isplitl [Habr0]; · iexact Habr0
  isplitl [Ho]; · iexact Ho
  isplitl [Hoh1]; · iexact Hoh1
  iintro ⟨HO, Hzbs0, Hzbr0, Hys1, Hyr0, Ho, Hoh1⟩
  iapply (run_bind c)
  iapply (step18 I K c _)
  isplitr; · iexact HR
  isplitr; · iexact HL
  isplitl [HO]; · iexact HO
  isplitl [Hcbs1]; · iexact Hcbs1
  isplitl [Habs1]; · iexact Habs1
  isplitl [Hcbr1]; · iexact Hcbr1
  isplitl [Habr1]; · iexact Habr1
  isplitl [Hcbs2]; · iexact Hcbs2
  isplitl [Habs2]; · iexact Habs2
  isplitl [Ho]; · iexact Ho
  isplitl [Hoh2]; · iexact Hoh2
  iintro ⟨HO, Hzbs1, Hzbr1, Hzbs2, Hys2, Hys3, Hyr1, Ho, Hoh2⟩
  simp only [Prog.lift, Prog.bind_op, Prog.bind_ret, Prog.pure_eq_ret]
  iapply (wait_dma I K c (.brcv 2) (by decide) rfl [] (fun a ha => absurd ha List.not_mem_nil) (by unfold amt NY; rfl) (n := NY) rfl
    (P := own c (yrS 2) (ysr I 2 (sh 2 c))) rfl) $$ [HO Hcbr2 Habr2]
  · isplitr; · iexact HR
    isplitr; · iexact HL
    isplitl [HO]; · iexact HO
    isplitl [Hcbr2] <;> iassumption
  iintro ⟨HO, Hzbr2, Hyr2⟩
  iapply (load_o c) $$ Ho; iintro Ho
  iapply (wp_load_slot 𝒱₀ (c : Thread nD τ) none Set.univ ohM (ohR 3 _) (fun _ => rfl)) $$ Hoh3; iintro Hoh3
  iapply (wp_load_slot 𝒱₀ (c : Thread nD τ) none Set.univ yrM (yrR 2 _) (fun _ => rfl)) $$ Hyr2; iintro Hyr2
  iapply (load_o c) $$ Ho; iintro Ho
  iapply (store_o c) $$ Ho; iintro Ho
  iapply (run_ret c (v := PUnit.unit) (by rfl))
  iapply Hk
  isplitl [HO]; · iexact HO
  isplitl [Hzb Hzs0 Hzs1 Hzs2 Hzr0 Hzr1 Hzr2 Hzbs0 Hzbs1 Hzbs2 Hzbr0 Hzbr1 Hzbr2]
  · isplitl [Hzb]; · iexact Hzb
    isplitl [Hzs0 Hzs1 Hzs2]
    · isplitl [Hzs0]; · iexact Hzs0
      isplitl [Hzs1]; · iexact Hzs1
      iexact Hzs2
    isplitl [Hzr0 Hzr1 Hzr2]
    · isplitl [Hzr0]; · iexact Hzr0
      isplitl [Hzr1]; · iexact Hzr1
      iexact Hzr2
    isplitl [Hzbs0 Hzbs1 Hzbs2]
    · isplitl [Hzbs0]; · iexact Hzbs0
      isplitl [Hzbs1]; · iexact Hzbs1
      iexact Hzbs2
    isplitl [Hzbr0]; · iexact Hzbr0
    isplitl [Hzbr1]; · iexact Hzbr1
    iexact Hzbr2
  isplitl [Hoh0 Hoh1 Hoh2 Hoh3 Hps0 Hps1 Hps2 Hps3 Hpr0 Hpr1 Hpr2 Hys0 Hys1 Hys2 Hys3 Hyr0 Hyr1 Hyr2]
  · isplitl [Hoh0 Hoh1 Hoh2 Hoh3]
    · isplitl [Hoh0]; · iexists _; iexact Hoh0
      isplitl [Hoh1]; · iexists _; iexact Hoh1
      isplitl [Hoh2]; · iexists _; iexact Hoh2
      iexists _; iexact Hoh3
    isplitl [Hps0 Hps1 Hps2 Hps3]
    · isplitl [Hps0]; · iexists _; iexact Hps0
      isplitl [Hps1]; · iexists _; iexact Hps1
      isplitl [Hps2]; · iexists _; iexact Hps2
      iexists _; iexact Hps3
    isplitl [Hpr0 Hpr1 Hpr2]
    · isplitl [Hpr0]; · iexists _; iexact Hpr0
      isplitl [Hpr1]; · iexists _; iexact Hpr1
      iexists _; iexact Hpr2
    isplitl [Hys0 Hys1 Hys2 Hys3]
    · isplitl [Hys0]; · iexists _; iexact Hys0
      isplitl [Hys1]; · iexists _; iexact Hys1
      isplitl [Hys2]; · iexists _; iexact Hys2
      iexists _; iexact Hys3
    isplitl [Hyr0]; · iexists _; iexact Hyr0
    isplitl [Hyr1]; · iexists _; iexact Hyr1
    iexists _; iexact Hyr2
  isplitl [Hx]; · iexact Hx
  isplitl [Hrw]; · iexact Hrw
  isplitl [Hri]; · iexact Hri
  isplitl [Hew]; · iexact Hew
  isplitl [Hsw]; · iexact Hsw
  iexact Ho

end Cert.KernelIdeal.Moe

end
-- ==== Proof.KernelIdeal.Ghost.lean ====
/-
# Ghost: the launch sets the protocol up and deals every device its part
-/
module

public import proofs.«01_k».proof.Proof.KernelIdeal.Body

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-! ## The pieces, semaphore by semaphore -/

theorem sep13 (Φ : CK → sProp 𝕄) : bigSep Finset.univ Φ
    = iprop(Φ .bar ∗ Φ (.snd 0) ∗ Φ (.snd 1) ∗ Φ (.snd 2) ∗ Φ (.rcv 0) ∗ Φ (.rcv 1) ∗ Φ (.rcv 2) ∗ Φ (.bsnd 0) ∗ Φ (.bsnd 1) ∗ Φ (.bsnd 2) ∗ Φ (.brcv 0) ∗ Φ (.brcv 1) ∗ Φ (.brcv 2)) :=
  bigSep_univ_eq_bigSepL CK.all (by decide) CK.nodup_all Φ

theorem sep3 (Φ : Fin 3 → sProp 𝕄) : bigSep Finset.univ Φ = iprop(Φ 0 ∗ Φ 1 ∗ Φ 2) :=
  bigSep_univ_eq_bigSepL [0, 1, 2] (by decide) (by decide) Φ

theorem sep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Thirteen things one after another are those thirteen grouped by kind, -/
theorem group13 (Φ : CK → sProp 𝕄) : bigSep Finset.univ Φ
    ⊢ iprop(Φ .bar ∗ (Φ (.snd 0) ∗ Φ (.snd 1) ∗ Φ (.snd 2)) ∗ (Φ (.rcv 0) ∗ Φ (.rcv 1) ∗ Φ (.rcv 2)) ∗ (Φ (.bsnd 0) ∗ Φ (.bsnd 1) ∗ Φ (.bsnd 2)) ∗ (Φ (.brcv 0) ∗ Φ (.brcv 1) ∗ Φ (.brcv 2))) := by
  rw [sep13]
  iintro ⟨Hb, Hs0, Hs1, Hs2, Hr0, Hr1, Hr2, Ht0, Ht1, Ht2, Hu0, Hu1, Hu2⟩
  isplitl [Hb]; · iexact Hb
  isplitl [Hs0 Hs1 Hs2]
  · isplitl [Hs0]; · iexact Hs0
    isplitl [Hs1]; · iexact Hs1
    iexact Hs2
  isplitl [Hr0 Hr1 Hr2]
  · isplitl [Hr0]; · iexact Hr0
    isplitl [Hr1]; · iexact Hr1
    iexact Hr2
  isplitl [Ht0 Ht1 Ht2]
  · isplitl [Ht0]; · iexact Ht0
    isplitl [Ht1]; · iexact Ht1
    iexact Ht2
  isplitl [Hu0]; · iexact Hu0
  isplitl [Hu1]; · iexact Hu1
  iexact Hu2

/-! ## The semaphores of the launch -/

/-- The kernel's own twelve semaphores. -/
abbrev osem (i : Fin 12) : SemLoc sig := csem ((![.snd 0, .snd 1, .snd 2, .rcv 0, .rcv 1, .rcv 2, .bsnd 0, .bsnd 1, .bsnd 2, .brcv 0, .brcv 1, .brcv 2] : Fin 12 → CK) i)

theorem ownSemFacts : Pipeline.OwnSemFacts cfg0.spec osem := by decide

theorem ownSems0_eq : (Pipeline.ownSems0 (Ix := Unit) (Name := ℕ) (U := UU) (Lvl := ℕ) (Val := Elt F) (τ := τ) osem c : sProp 𝕄)
    = iprop(semVal (cell c (.snd 0)) 0 ∗ semVal (cell c (.snd 1)) 0 ∗ semVal (cell c (.snd 2)) 0 ∗ semVal (cell c (.rcv 0)) 0 ∗ semVal (cell c (.rcv 1)) 0 ∗ semVal (cell c (.rcv 2)) 0 ∗ semVal (cell c (.bsnd 0)) 0 ∗ semVal (cell c (.bsnd 1)) 0 ∗ semVal (cell c (.bsnd 2)) 0 ∗ semVal (cell c (.brcv 0)) 0 ∗ semVal (cell c (.brcv 1)) 0 ∗ semVal (cell c (.brcv 2)) 0) := by
  rw [Pipeline.ownSems0_eq_of_list c osem [0, 1, 2, 3, 4, 5, 6, 7, 8, 9, 10, 11] (by decide) (by decide)]; rfl

theorem unscopedSems0_eq : (unscopedSems0 c : sProp 𝕄) = semVal (cell c .bar) 0 := by
  unfold unscopedSems0; rw [bigSep_eq_bigSepL_of_eq [SemLoc.reg barS] (by decide) (by decide)]; rfl

/-- The launch's semaphores at zero are the thirteen at zero; -/
theorem sems_in :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_eq, unscopedSems0_eq, sep13]
  iintro ⟨HS, HB⟩
  isplitl [HB]; · iexact HB
  iexact HS

/-- and back. -/
theorem sems_out : zeros13 (F := F) c
    ⊢ iprop(unscopedSems0 c ∗ Pipeline.ownSems0 (Ix := Unit) (Name := ℕ) (U := UU) (Lvl := ℕ) (Val := Elt F) (τ := τ) osem c) := by
  rw [ownSems0_eq, unscopedSems0_eq]
  unfold zeros13
  iintro ⟨Hb, ⟨Hs0, Hs1, Hs2⟩, ⟨Hr0, Hr1, Hr2⟩, ⟨Ht0, Ht1, Ht2⟩, Hu0, Hu1, Hu2⟩
  isplitl [Hb]; · iexact Hb
  isplitl [Hs0]; · iexact Hs0
  isplitl [Hs1]; · iexact Hs1
  isplitl [Hs2]; · iexact Hs2
  isplitl [Hr0]; · iexact Hr0
  isplitl [Hr1]; · iexact Hr1
  isplitl [Hr2]; · iexact Hr2
  isplitl [Ht0]; · iexact Ht0
  isplitl [Ht1]; · iexact Ht1
  isplitl [Ht2]; · iexact Ht2
  isplitl [Hu0]; · iexact Hu0
  isplitl [Hu1]; · iexact Hu1
  iexact Hu2

/-! ## The ghost state of the launch -/

theorem cell_injective : Function.Injective (fun ck : Dev nD × CK => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-- All the devices' semaphores, -/
def allCells : Finset (GSem nD τ sig) := Finset.univ.map ⟨_, cell_injective⟩

/-- the contributions to one device's semaphores: which semaphore, and which contribution, -/
def contrib (ar : Fin 5 × Fin 3) : CK × Fin 3 := match ar.1 with
  | 0 => (.bar, ar.2) | 1 => (.snd ar.2, 0) | 2 => (.rcv ar.2, 0) | 3 => (.bsnd ar.2, 0) | 4 => (.brcv ar.2, 0)
theorem contrib_injective : Function.Injective contrib := by decide

theorem token_injective : Function.Injective (fun x : Dev nD × (Fin 5 × Fin 3) => ((cell x.1 (contrib x.2).1, 0, (contrib x.2).2) : GSem nD τ sig × ℕ × Fin 3)) := by
  rintro ⟨c, a⟩ ⟨c', a'⟩ h
  have h0 : (fun ck : Dev nD × CK => cell ck.1 ck.2) (c, (contrib a).1) = (fun ck : Dev nD × CK => cell ck.1 ck.2) (c', (contrib a').1) := congrArg Prod.fst h
  have h1 := cell_injective h0
  have h2 : (contrib a).2 = (contrib a').2 := congrArg (fun x => x.2.2) h
  have h3 : a = a' := contrib_injective (Prod.ext (congrArg Prod.snd h1) h2)
  rw [show c = c' from congrArg Prod.fst h1, h3]

/-- and the contributions to all. -/
def allToks : Finset (GSem nD τ sig × ℕ × Fin 3) := Finset.univ.map ⟨_, token_injective⟩

def u₀ : UU :=
  (initOf (Pipeline.cells cfgs cellOf_inj) (Pipeline.launchToks cfgs cellOf_inj), initOf allCells allToks)

/-- The contributions to device `c`'s semaphores. -/
def toksAt (c : Dev nD) : sProp 𝕄 :=
  iprop((tok c .bar 0 ∗ tok c .bar 1 ∗ tok c .bar 2) ∗ (tok c (.snd 0) 0 ∗ tok c (.snd 1) 0 ∗ tok c (.snd 2) 0) ∗ (tok c (.rcv 0) 0 ∗ tok c (.rcv 1) 0 ∗ tok c (.rcv 2) 0) ∗ (tok c (.bsnd 0) 0 ∗ tok c (.bsnd 1) 0 ∗ tok c (.bsnd 2) 0) ∗ (tok c (.brcv 0) 0 ∗ tok c (.brcv 1) 0 ∗ tok c (.brcv 2) 0))

/-- What the launch deals device `c`: the state of its thirteen semaphores and the contributions to them. -/
def dealt (c : Dev nD) : sProp 𝕄 :=
  iprop((bigSep Finset.univ fun k : CK => roundState ER (rd I) (cell c k) 0)
    ∗ (bigSep Finset.univ fun k : CK => iprop(pos c k ∗ reached ER (cell c k) 0)) ∗ toksAt c)

/-- What it starts from, all invariants in place. -/
def ready (c : Dev nD) : sProp 𝕄 := iprop(∃ K, records I K ∗ places13 c ∗ toks c)

theorem fund_all : BI.own (ER (initOf allCells allToks)) ⊢ (|==> bigSep Finset.univ (dealt I) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toksAt c := by
    unfold allToks; rw [bigSep_map, bigSep_univ_prod]
    exact bigSep_congr fun c _ => by
      unfold toksAt; rw [bigSep_univ_prod, sep5, sep3, sep3, sep3, sep3, sep3]; rfl
  iintro HX
  imod (Rounds.fund ER (rd I) allCells allToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- One device's thirteen invariants set up. -/
theorem core_alloc :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun k : CK => iprop(∃ κ : ℕ, cellInv ER (rd I) κ (cell c k)))
          ∗ (bigSep Finset.univ fun k : CK => iprop(pos c k ∗ reached ER (cell c k) 0)) ∗ toksAt c) := by
  unfold dealt
  iintro ⟨Hos, Hus, Hst, Hat, Htok⟩
  ihave Hv := (sems_in (F := F) c) $$ [Hos Hus]
  · isplitl [Hos] <;> iassumption
  imod (show iprop((bigSep Finset.univ fun k : CK => semVal (cell c k) 0) ∗ bigSep Finset.univ fun k : CK => roundState ER (rd I) (cell c k) 0)
      ⊢ (|={Set.univ}=> bigSep Finset.univ fun k : CK => iprop(∃ κ : ℕ, cellInv ER (rd I) κ (cell c k)) : sProp 𝕄) from by
        rw [← bigSep_sep']
        exact (bigSep_mono fun k _ => (Rounds.body_intro ER (rd I) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The contributions to a semaphore of every device, dealt to the devices `r + 1` behind. -/
theorem deal (r : Fin 3) (k : CK) (d : Fin 3) :
    (bigSep Finset.univ fun c : Dev nD => (tok c k d : sProp 𝕄)) ⊢ bigSep Finset.univ fun c : Dev nD => tok (sh r c) k d :=
  Entails.of_eq (bigSep_univ_equiv (ring r) fun c : Dev nD => (tok c k d : sProp 𝕄))

/-- All contributions, dealt to the devices that make them. -/
theorem deal_all : (bigSep Finset.univ fun c : Dev nD => (toksAt c : sProp 𝕄)) ⊢ bigSep Finset.univ fun c : Dev nD => toks c := by
  unfold toksAt toks
  simp only [bigSep_sep']
  exact BIClass.sep_mono (BIClass.sep_mono (deal 0 _ _) (BIClass.sep_mono (deal 1 _ _) (deal 2 _ _)))
    (BIClass.sep_mono BIBase.Entails.rfl
      (BIClass.sep_mono (BIClass.sep_mono (deal 0 _ _) (BIClass.sep_mono (deal 1 _ _) (deal 2 _ _)))
        (BIClass.sep_mono BIBase.Entails.rfl
          (BIClass.sep_mono (deal 2 _ _) (BIClass.sep_mono (deal 1 _ _) (deal 0 _ _))))))

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The pieces of all the devices, named and dealt. -/
theorem regroup :
    (bigSep Finset.univ fun c : Dev nD => iprop((bigSep Finset.univ fun k : CK => iprop(∃ κ : ℕ, cellInv ER (rd I) κ (cell c k)))
          ∗ (bigSep Finset.univ fun k : CK => iprop(pos c k ∗ reached ER (cell c k) 0)) ∗ toksAt c) : sProp 𝕄)
      ⊢ bigSep Finset.univ (ready I) := by
  rw [bigSep_sep', bigSep_sep', ← bigSep_univ_prod (fun ck : Dev nD × CK => iprop(∃ κ : ℕ, cellInv ER (rd I) κ (cell ck.1 ck.2))),
    bigSep_congr (s := Finset.univ) (fun (c : Dev nD) _ => bigSep_sep' Finset.univ (fun k : CK => (pos c k : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (rd I) κ (cell ck.1 ck.2) : sProp 𝕄))) $$ HI
  icases HK with ⟨%K, #HI⟩
  ihave Htk := (deal_all (F := F)) $$ Htok
  iapply (with_persistent (R := records I K) (Φ := fun c => iprop((bigSep Finset.univ fun k : CK => (pos c k : sProp 𝕄)) ∗ toks c)) fun c _ =>
    show iprop(records I K ∗ (bigSep Finset.univ fun k : CK => (pos c k : sProp 𝕄)) ∗ toks c) ⊢ ready I c from by
      unfold ready
      iintro ⟨HR, Ha, Ht⟩
      iexists K
      isplitl [HR]; · iexact HR
      isplitl [Ha]; · iapply (show (bigSep Finset.univ fun k : CK => (pos c k : sProp 𝕄)) ⊢ places13 c from group13 (fun k => (pos c k : sProp 𝕄))); iexact Ha
      iexact Ht)
  isplitr
  · unfold records; isplitl; · iexact HI
    iexact HR
  · iapply (Entails.of_eq (bigSep_sep' Finset.univ (fun c : Dev nD => bigSep Finset.univ fun k : CK => (pos c k : sProp 𝕄)) toks).symm)
    isplitl [Hat]; · iexact Hat
    iexact Htk

/-- The global step: every device's semaphores and state become its start. -/
theorem glob : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (ready I) :=
  ((bigSep_mono fun c _ => core_alloc I c).trans (bigSep_fupd _ _)).trans (BI.fupd_mono (regroup I))

end Cert.KernelIdeal.Moe

end
-- ==== Proof.KernelIdeal.Credit.lean ====
/-
# Credit: what the devices owe is what the semaphores are promised
-/
module

public import proofs.«01_k».proof.Proof.KernelIdeal.Ghost

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

theorem cell_eq_iff {a b : Dev nD} {k k' : CK} : cell a k = cell b k' ↔ a = b ∧ k = k' :=
  ⟨fun h => ⟨congrArg (fun g : GSem nD τ sig => g.1.1) h, csem_injective (congrArg Prod.snd h)⟩, fun h => by rw [h.1, h.2]⟩

/-- What each device owes, as a function. -/
def O₀ (c : Dev nD) : CellTallies nD τ sig Unit := owed (dues c)

/-- What will reach each of a device's semaphores. -/
def coming : CK → ℕ
  | .bar => 3
  | .rcv _ => NP
  | .brcv _ => NY
  | _ => 0

/-- Of all the devices exactly one is `r + 1` behind `c`. -/
theorem sum_at (r : Fin 3) (n : ℕ) : (∑ d : Dev nD, if c = sh r d then n else 0) = n := by
  have h : ∀ d : Dev nD, (if c = sh r d then n else 0) = if d = sh r.rev c then n else 0 := fun d => by
    refine if_congr ⟨fun h => by rw [h, sh_rev], fun h => by rw [h, rev_sh]⟩ rfl rfl
  rw [Finset.sum_congr rfl fun d _ => h d, Finset.sum_ite_eq' Finset.univ (sh r.rev c) fun _ => n, if_pos (Finset.mem_univ _)]

/-- What device `d` owes device `c`'s semaphore `k`. -/
theorem owed_at (d : Dev nD) (k : CK) : O₀ d (cell c k) () = match k with
    | .bar => (if c = sh 0 d then 1 else 0) + (if c = sh 1 d then 1 else 0) + (if c = sh 2 d then 1 else 0)
    | .rcv r => if c = sh r d then NP else 0
    | .brcv r => if c = sh r.rev d then NY else 0
    | _ => 0 := by
  unfold O₀ dues forth back
  simp only [owed, Pi.add_apply, Finsupp.add_apply, tallyAt_apply, cell_eq_iff, Pi.zero_apply, Finsupp.zero_apply]
  cases k with
  | bar => simp; omega
  | snd r => simp
  | bsnd r => simp
  | rcv r => fin_cases r <;> simp
  | brcv r => fin_cases r <;> simp [Fin.rev]

theorem sum_owed (k : CK) : (∑ d : Dev nD, O₀ d (cell c k) ()) = coming k := by
  rw [Finset.sum_congr rfl fun d _ => owed_at c d k]
  cases k with
  | bar => simp only [Finset.sum_add_distrib, sum_at]; rfl
  | snd r => simp [coming]
  | bsnd r => simp [coming]
  | rcv r => exact sum_at c r NP
  | brcv r => exact sum_at c r.rev NY

theorem launch_at (k : CK) :
    tallyOn (cell c k) (launchCredit (Pipeline.owing O₀) 0 (cell c k)) = (tallyAt (cell c k) () (coming k) : CellTallies nD τ sig Unit) := by
  unfold tallyAt; refine congrArg _ (Finsupp.ext fun u => ?_); cases u
  rw [Pipeline.launchCredit_owing, Finsupp.single_eq_same, sum_owed]

/-- The launch's promises hold those of the protocol. -/
theorem creds_in : (Pipeline.launchCred O₀ c : sProp 𝕄) ⊢ creds c := by
  have h : (Pipeline.launchCred O₀ c : sProp 𝕄) ⊢ bigSep Finset.univ fun k : CK => crd c k (coming k) := by
    unfold Pipeline.launchCred
    refine (bigSep_subset (Finset.subset_univ (Finset.univ.map ⟨csem, csem_injective⟩))).trans ?_
    rw [bigSep_map]
    exact Entails.of_eq (bigSep_congr fun k _ => congrArg cred (launch_at c k))
  refine h.trans ?_
  refine (group13 (fun k : CK => (crd c k (coming k) : sProp 𝕄))).trans ?_
  unfold creds
  iintro ⟨Hb, -, Hr, -, Hu⟩
  isplitl [Hb]; · iexact Hb
  isplitl [Hr]; · iexact Hr
  iexact Hu

end Cert.KernelIdeal.Moe

end
-- ==== Proof.KernelIdeal.Buffers.lean ====
/-
# Buffers: the five working buffers, cut into their slots
-/
module

public import proofs.«01_k».proof.Proof.KernelIdeal.Body
public import proofs.«01_k».proof.Proof.Cut

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- The buffer `cc0_scratch0` is its 4 slots. -/
theorem oh_cut : (iprop(∃ f, hold c cc0_scratch0 f) : sProp 𝕄) = iprop((∃ X, own c (ohS 0) X) ∗ (∃ X, own c (ohS 1) X) ∗ (∃ X, own c (ohS 2) X) ∗ (∃ X, own c (ohS 3) X)) := by
  have h1 : (iprop(∃ f, hold c cc0_scratch0 f) : sProp 𝕄) = iprop(∃ X, own c ohM X) :=
    congrArg (fun P : (S4x1024x384.Idx → Elt F .f32) → sProp 𝕄 => iprop(∃ X, P X)) (funext fun X => (owns_whole (c : Thread nD τ) cc0_scratch0 fullShare X).symm)
  rw [h1, cut_eq (c : Thread nD τ) ohM fullShare (fun t : Fin 4 => ohR t.val t.isLt) (fun _ _ => rfl) (fun i => i 0)
    (fun t j => Fin.ext (by
      have hj : (j 0).val < 1 := (j 0).isLt
      have he : ((ohR t.val t.isLt).emb j 0).val = t.val + 1 * (j 0).val := rfl
      omega))
    (fun i => ⟨fun a => match a with
        | ⟨0, _⟩ => ⟨0, Nat.one_pos⟩
        | ⟨1, _⟩ => i 1
        | ⟨2, _⟩ => i 2, funext fun a => by
      fin_cases a
      · exact Fin.ext (show (i 0).val + 1 * 0 = (i 0).val by omega)
      · exact Fin.ext (show 0 + 1 * (i 1).val = (i 1).val by omega)
      · exact Fin.ext (show 0 + 1 * (i 2).val = (i 2).val by omega)⟩),
    bigSep_univ_eq_bigSepL [0, 1, 2, 3] (by decide) (by decide)]
  rfl

/-- The buffer `cc0_scratch1` is its 4 slots. -/
theorem ps_cut : (iprop(∃ f, hold c cc0_scratch1 f) : sProp 𝕄) = iprop((∃ X, own c (psS 0) X) ∗ (∃ X, own c (psS 1) X) ∗ (∃ X, own c (psS 2) X) ∗ (∃ X, own c (psS 3) X)) := by
  have h1 : (iprop(∃ f, hold c cc0_scratch1 f) : sProp 𝕄) = iprop(∃ X, own c psM X) :=
    congrArg (fun P : (S4x384x528.Idx → Elt F .bf16) → sProp 𝕄 => iprop(∃ X, P X)) (funext fun X => (owns_whole (c : Thread nD τ) cc0_scratch1 fullShare X).symm)
  rw [h1, cut_eq (c : Thread nD τ) psM fullShare (fun t : Fin 4 => psR t.val t.isLt) (fun _ _ => rfl) (fun i => i 0)
    (fun t j => Fin.ext (by
      have hj : (j 0).val < 1 := (j 0).isLt
      have he : ((psR t.val t.isLt).emb j 0).val = t.val + 1 * (j 0).val := rfl
      omega))
    (fun i => ⟨fun a => match a with
        | ⟨0, _⟩ => ⟨0, Nat.one_pos⟩
        | ⟨1, _⟩ => i 1
        | ⟨2, _⟩ => i 2, funext fun a => by
      fin_cases a
      · exact Fin.ext (show (i 0).val + 1 * 0 = (i 0).val by omega)
      · exact Fin.ext (show 0 + 1 * (i 1).val = (i 1).val by omega)
      · exact Fin.ext (show 0 + 1 * (i 2).val = (i 2).val by omega)⟩),
    bigSep_univ_eq_bigSepL [0, 1, 2, 3] (by decide) (by decide)]
  rfl

/-- The buffer `cc0_scratch2` is its 3 slots. -/
theorem pr_cut : (iprop(∃ f, hold c cc0_scratch2 f) : sProp 𝕄) = iprop((∃ X, own c (prS 0) X) ∗ (∃ X, own c (prS 1) X) ∗ (∃ X, own c (prS 2) X)) := by
  have h1 : (iprop(∃ f, hold c cc0_scratch2 f) : sProp 𝕄) = iprop(∃ X, own c prM X) :=
    congrArg (fun P : (S3x384x528.Idx → Elt F .bf16) → sProp 𝕄 => iprop(∃ X, P X)) (funext fun X => (owns_whole (c : Thread nD τ) cc0_scratch2 fullShare X).symm)
  rw [h1, cut_eq (c : Thread nD τ) prM fullShare (fun t : Fin 3 => prR t.val t.isLt) (fun _ _ => rfl) (fun i => i 0)
    (fun t j => Fin.ext (by
      have hj : (j 0).val < 1 := (j 0).isLt
      have he : ((prR t.val t.isLt).emb j 0).val = t.val + 1 * (j 0).val := rfl
      omega))
    (fun i => ⟨fun a => match a with
        | ⟨0, _⟩ => ⟨0, Nat.one_pos⟩
        | ⟨1, _⟩ => i 1
        | ⟨2, _⟩ => i 2, funext fun a => by
      fin_cases a
      · exact Fin.ext (show (i 0).val + 1 * 0 = (i 0).val by omega)
      · exact Fin.ext (show 0 + 1 * (i 1).val = (i 1).val by omega)
      · exact Fin.ext (show 0 + 1 * (i 2).val = (i 2).val by omega)⟩),
    bigSep_univ_eq_bigSepL [0, 1, 2] (by decide) (by decide)]
  rfl

/-- The buffer `cc0_scratch3` is its 4 slots. -/
theorem ys_cut : (iprop(∃ f, hold c cc0_scratch3 f) : sProp 𝕄) = iprop((∃ X, own c (ysS 0) X) ∗ (∃ X, own c (ysS 1) X) ∗ (∃ X, own c (ysS 2) X) ∗ (∃ X, own c (ysS 3) X)) := by
  have h1 : (iprop(∃ f, hold c cc0_scratch3 f) : sProp 𝕄) = iprop(∃ X, own c ysM X) :=
    congrArg (fun P : (S4x384x1024.Idx → Elt F .bf16) → sProp 𝕄 => iprop(∃ X, P X)) (funext fun X => (owns_whole (c : Thread nD τ) cc0_scratch3 fullShare X).symm)
  rw [h1, cut_eq (c : Thread nD τ) ysM fullShare (fun t : Fin 4 => ysR t.val t.isLt) (fun _ _ => rfl) (fun i => i 0)
    (fun t j => Fin.ext (by
      have hj : (j 0).val < 1 := (j 0).isLt
      have he : ((ysR t.val t.isLt).emb j 0).val = t.val + 1 * (j 0).val := rfl
      omega))
    (fun i => ⟨fun a => match a with
        | ⟨0, _⟩ => ⟨0, Nat.one_pos⟩
        | ⟨1, _⟩ => i 1
        | ⟨2, _⟩ => i 2, funext fun a => by
      fin_cases a
      · exact Fin.ext (show (i 0).val + 1 * 0 = (i 0).val by omega)
      · exact Fin.ext (show 0 + 1 * (i 1).val = (i 1).val by omega)
      · exact Fin.ext (show 0 + 1 * (i 2).val = (i 2).val by omega)⟩),
    bigSep_univ_eq_bigSepL [0, 1, 2, 3] (by decide) (by decide)]
  rfl

/-- The buffer `cc0_scratch4` is its 3 slots. -/
theorem yr_cut : (iprop(∃ f, hold c cc0_scratch4 f) : sProp 𝕄) = iprop((∃ X, own c (yrS 0) X) ∗ (∃ X, own c (yrS 1) X) ∗ (∃ X, own c (yrS 2) X)) := by
  have h1 : (iprop(∃ f, hold c cc0_scratch4 f) : sProp 𝕄) = iprop(∃ X, own c yrM X) :=
    congrArg (fun P : (S3x384x1024.Idx → Elt F .bf16) → sProp 𝕄 => iprop(∃ X, P X)) (funext fun X => (owns_whole (c : Thread nD τ) cc0_scratch4 fullShare X).symm)
  rw [h1, cut_eq (c : Thread nD τ) yrM fullShare (fun t : Fin 3 => yrR t.val t.isLt) (fun _ _ => rfl) (fun i => i 0)
    (fun t j => Fin.ext (by
      have hj : (j 0).val < 1 := (j 0).isLt
      have he : ((yrR t.val t.isLt).emb j 0).val = t.val + 1 * (j 0).val := rfl
      omega))
    (fun i => ⟨fun a => match a with
        | ⟨0, _⟩ => ⟨0, Nat.one_pos⟩
        | ⟨1, _⟩ => i 1
        | ⟨2, _⟩ => i 2, funext fun a => by
      fin_cases a
      · exact Fin.ext (show (i 0).val + 1 * 0 = (i 0).val by omega)
      · exact Fin.ext (show 0 + 1 * (i 1).val = (i 1).val by omega)
      · exact Fin.ext (show 0 + 1 * (i 2).val = (i 2).val by omega)⟩),
    bigSep_univ_eq_bigSepL [0, 1, 2] (by decide) (by decide)]
  rfl

/-- The scoped buffers that stage nothing are the slots. -/
theorem slots_eq : (Pipeline.scopedRest (Ix := Unit) (Name := ℕ) (U := UU) (Lvl := ℕ) (Val := Elt F) spec0 c : sProp 𝕄) = slots c := by
  have h : (Pipeline.scopedRest (Ix := Unit) (Name := ℕ) (U := UU) (Lvl := ℕ) (Val := Elt F) spec0 c : sProp 𝕄)
      = iprop((∃ f, hold c cc0_scratch0 f) ∗ (∃ f, hold c cc0_scratch1 f) ∗ (∃ f, hold c cc0_scratch2 f) ∗ (∃ f, hold c cc0_scratch3 f) ∗ (∃ f, hold c cc0_scratch4 f)) :=
    scopedRest0_eq c
  rw [h, oh_cut, ps_cut, pr_cut, ys_cut, yr_cut]
  rfl

end Cert.KernelIdeal.Moe

end
-- ==== Proof.KernelIdeal.Launch.lean ====
/-
# Launch: the kernel on every device, from start to end
-/
module

public import proofs.«01_k».proof.Proof.KernelIdeal.Credit
public import proofs.«01_k».proof.Proof.KernelIdeal.Buffers
public import proofs.«01_k».proof.Proof.Gen.KernelIdeal.Points
public import Idealize.ShloMosaic.Lib.Pipeline.CollectiveSegs

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

open Idealize.ShloMosaic.Pipeline (Dat Cfg Window BodyObligation cellOf)

variable (m : (ℓ : Loc nD τ sig) → Buf (Elt F) ℓ) (ρ : Dev nD → PrngReg)

/-! ## The proof data of the launch -/

/-- The argument blocks as the launch finds them in memory. -/
def ins : Ins F where
  x c := (win0_0.blk (0 : Fin 1)).view.read (Elt F) (m ((c : Thread nD τ).loc main_arg0))
  rw c := (win0_1.blk (0 : Fin 1)).view.read (Elt F) (m ((c : Thread nD τ).loc main_arg1))
  ri c := (win0_2.blk (0 : Fin 1)).view.read (Elt F) (m ((c : Thread nD τ).loc main_arg2))
  ew c := (win0_3.blk (0 : Fin 1)).view.read (Elt F) (m ((c : Thread nD τ).loc main_arg3))
  sw c := (win0_4.blk (0 : Fin 1)).view.read (Elt F) (m ((c : Thread nD τ).loc main_arg4))

/-- Before the body: the protocol's share, the working buffers. -/
def start (c : Dev nD) : sProp 𝕄 := iprop(ready (ins m) c ∗ creds c ∗ levAts L lv)
def before₀ (c : Dev nD) : sProp 𝕄 := iprop(start m c ∗ slots c)
/-- After it: the semaphores at zero, the working buffers. -/
def after₀ (c : Dev nD) : sProp 𝕄 := iprop(zeros13 c ∗ slots c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).rw c
    | ⟨2, _⟩ => (ins m).ri c
    | ⟨3, _⟩ => (ins m).ew c
    | ⟨4, _⟩ => (ins m).sw c
    | ⟨5, _⟩ => out3 (ins m) c
  Φ t := match t with
    | ⟨0, _⟩ => before₀ m c
    | ⟨_ + 1, _⟩ => after₀ c
  q _ := fullShare
  owed t := match t with
    | ⟨0, _⟩ => O₀ c
    | ⟨_ + 1, _⟩ => 0

theorem share_eq (w : Fin cfg0.W) : (dats m 0 c).share w = fullShare := by unfold Dat.share; split <;> rfl

/-! ## The body's obligation -/

/-- A staging buffer, held at contents equal to `X`. -/
def staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem staged_intro (b : Ref sig .tc) (X : b.ty.Contents (Elt F)) : hold c b X ⊢ staged c b X := by
  unfold staged hold
  iintro H; iexists X; isplitr; · (ipureintro; rfl)
  iexact H

theorem staged_elim (b : Ref sig .tc) (X Y : b.ty.Contents (Elt F)) (h : X = Y) : staged c b X ⊢ hold c b Y := by
  subst h
  unfold staged hold
  iintro ⟨%f, %hf, H⟩; subst hf
  iexact H

theorem before_x (d) : (dats m 0 c).before (⟨0, by decide⟩ : Fin 6) t0_0 d = (ins m).x c := by
  unfold Dat.before; rw [if_pos (fetch0_0 t0_0)]; rfl
theorem before_rw (d) : (dats m 0 c).before (⟨1, by decide⟩ : Fin 6) t0_0 d = (ins m).rw c := by
  unfold Dat.before; rw [if_pos (fetch0_1 t0_0)]; rfl
theorem before_ri (d) : (dats m 0 c).before (⟨2, by decide⟩ : Fin 6) t0_0 d = (ins m).ri c := by
  unfold Dat.before; rw [if_pos (fetch0_2 t0_0)]; rfl
theorem before_ew (d) : (dats m 0 c).before (⟨3, by decide⟩ : Fin 6) t0_0 d = (ins m).ew c := by
  unfold Dat.before; rw [if_pos (fetch0_3 t0_0)]; rfl
theorem before_sw (d) : (dats m 0 c).before (⟨4, by decide⟩ : Fin 6) t0_0 d = (ins m).sw c := by
  unfold Dat.before; rw [if_pos (fetch0_4 t0_0)]; rfl

set_option maxRecDepth 4000 in
def bodyPre (c : Dev nD) : sProp 𝕄 :=
  iprop(before₀ m c ∗ (dats m 0 c).owesAt () t0_0.castSucc ∗ (∃ d, staged c cc0_stg0_0 ((dats m 0 c).before (⟨0, by decide⟩ : Fin 6) t0_0 d)) ∗ (∃ d, staged c cc0_stg1_0 ((dats m 0 c).before (⟨1, by decide⟩ : Fin 6) t0_0 d)) ∗ (∃ d, staged c cc0_stg2_0 ((dats m 0 c).before (⟨2, by decide⟩ : Fin 6) t0_0 d)) ∗ (∃ d, staged c cc0_stg3_0 ((dats m 0 c).before (⟨3, by decide⟩ : Fin 6) t0_0 d)) ∗ (∃ d, staged c cc0_stg4_0 ((dats m 0 c).before (⟨4, by decide⟩ : Fin 6) t0_0 d)) ∗ (∃ d, staged c cc0_stg5_0 ((dats m 0 c).before (⟨5, by decide⟩ : Fin 6) t0_0 d)))
set_option maxRecDepth 4000 in
def bodyPost (c : Dev nD) : sProp 𝕄 :=
  iprop(after₀ c ∗ (dats m 0 c).owesAt () t0_0.succ ∗ staged c cc0_stg0_0 ((ins m).x c) ∗ staged c cc0_stg1_0 ((ins m).rw c) ∗ staged c cc0_stg2_0 ((ins m).ri c) ∗ staged c cc0_stg3_0 ((ins m).ew c) ∗ staged c cc0_stg4_0 ((ins m).sw c) ∗ staged c cc0_stg5_0 (out3 (ins m) c))

theorem owes_in : (dats m 0 c).owesAt () t0_0.castSucc ⊢ (ow c (dues c) : sProp 𝕄) := by
  unfold Dat.owesAt Pipeline.owesWithin ow
  iintro ⟨%W, -, H⟩
  iexists W; iexact H

theorem owes_out : (ow c [] : sProp 𝕄) ⊢ (dats m 0 c).owesAt () t0_0.succ := by
  unfold Dat.owesAt Pipeline.owesWithin ow
  iintro ⟨%W, H⟩
  iexists W
  isplitr; · (ipureintro; exact fun _ _ => Or.inl trivial)
  iexact H

set_option maxRecDepth 4000 in
theorem body_triple : bodyPre m c ⊢ run c (cc0_body (F := F) xM (Memref.isWhole_whole _) rwM (Memref.isWhole_whole _) riM (Memref.isWhole_whole _) ewM (Memref.isWhole_whole _) swM (Memref.isWhole_whole _) oM (Memref.isWhole_whole _)
    ohM (Memref.isWhole_whole _) psM (Memref.isWhole_whole _) prM (Memref.isWhole_whole _) ysM (Memref.isWhole_whole _) yrM (Memref.isWhole_whole _) cc0_scratch5 cc0_scratch6 cc0_scratch7 cc0_scratch8) (fun _ => bodyPost m c) := by
  unfold bodyPre before₀ start ready
  iintro ⟨⟨⟨⟨%K, #HR, Hp, Ht⟩, Hc, #HL⟩, Hs⟩, Ho, ⟨%d0, H0⟩, ⟨%d1, H1⟩, ⟨%d2, H2⟩, ⟨%d3, H3⟩, ⟨%d4, H4⟩, ⟨%d5, H5⟩⟩
  ihave H0 := (staged_elim c cc0_stg0_0 _ _ (before_x c m d0)) $$ H0
  ihave H1 := (staged_elim c cc0_stg1_0 _ _ (before_rw c m d1)) $$ H1
  ihave H2 := (staged_elim c cc0_stg2_0 _ _ (before_ri c m d2)) $$ H2
  ihave H3 := (staged_elim c cc0_stg3_0 _ _ (before_ew c m d3)) $$ H3
  ihave H4 := (staged_elim c cc0_stg4_0 _ _ (before_sw c m d4)) $$ H4
  ihave H5 := (staged_elim c cc0_stg5_0 _ _ rfl) $$ H5
  ihave Ho := (owes_in c m) $$ Ho
  iapply (body_run (ins m) K c _)
  isplitr; · iexact HR
  isplitr; · iexact HL
  isplitl [Ho]; · iexact Ho
  isplitl [Ht]; · iexact Ht
  isplitl [Hc]; · iexact Hc
  isplitl [Hp]; · iexact Hp
  isplitl [Hs]; · iexact Hs
  isplitl [H0]; · iexact H0
  isplitl [H1]; · iexact H1
  isplitl [H2]; · iexact H2
  isplitl [H3]; · iexact H3
  isplitl [H4]; · iexact H4
  isplitl [H5]; · iexact H5
  iintro ⟨Ho, Hz, Hs, H0, H1, H2, H3, H4, H5⟩
  unfold bodyPost after₀
  isplitl [Hz Hs]
  · isplitl [Hz]; · iexact Hz
    iexact Hs
  isplitl [Ho]; · iapply (owes_out c m); iexact Ho
  isplitl [H0]; · iapply (staged_intro c cc0_stg0_0 _); iexact H0
  isplitl [H1]; · iapply (staged_intro c cc0_stg1_0 _); iexact H1
  isplitl [H2]; · iapply (staged_intro c cc0_stg2_0 _); iexact H2
  isplitl [H3]; · iapply (staged_intro c cc0_stg3_0 _); iexact H3
  isplitl [H4]; · iapply (staged_intro c cc0_stg4_0 _); iexact H4
  iapply (staged_intro c cc0_stg5_0 _); iexact H5

set_option maxRecDepth 4000 in
/-- The body does what the launch asks of it on core `c`. -/
theorem body_obligation : BodyObligation (dats (F := F) m 0 c) (defs₀ (F := F)) 𝒱₀ () Set.univ := fun t => by
  rw [fin_N0 t]
  rw [bigSep_W0, bigSep_W0]
  simp only [owns_whole_eq]
  exact body_triple c m

/-! ## The launch's side conditions -/

theorem start_intro :
    iprop(Pipeline.unscopedRestP Pipeline.Prefetch.none cfg0.spec c (fun b => m ((c : Thread nD τ).loc b)) ∗ levAts L lv
        ∗ Pipeline.launchCred O₀ c ∗ prngReg c (ρ c) ∗ ready (ins m) c)
      ⊢ |={Set.univ}=> iprop(start m c ∗ emp) := by
  iintro ⟨-, Hlev, Hcr, -, HG⟩
  ihave Hc := (creds_in (F := F) c) $$ Hcr
  imodintro
  unfold start
  isplitl
  · isplitl [HG]; · iexact HG
    isplitl [Hc]; · iexact Hc
    iexact Hlev
  · iempintro

theorem phi_in :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl]
  unfold before₀
  iintro ⟨Hs, -, Hr⟩
  isplitl [Hs]; · iexact Hs
  iapply (Entails.of_eq (slots_eq (F := F) c)); iexact Hr

theorem phi_out :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl]
  unfold after₀
  iintro ⟨Hz, Hs⟩
  ihave Hz := (sems_out (F := F) c) $$ Hz
  icases Hz with ⟨Hu, Ho⟩
  isplitl [Hu]; · iexact Hu
  isplitl [Ho]; · iexact Ho
  iapply (Entails.of_eq (slots_eq (F := F) c).symm); iexact Hs

theorem stage_free (w : Fin cfg0.W) (s : Fin (cfg0.win w).nbuf) : rk (which (.dma ((cfg0.win w).sem s))) = 0 := by
  fin_cases w <;> fin_cases s <;> decide

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait c _ (dues c) fun a ha => by
        have h := dues_above c (n := 0) (by decide) a ha
        exact ⟨h.1, lt_of_eq_of_lt (stage_free w s) h.2⟩
    · exact mayWait c _ [] fun a ha => absurd ha List.not_mem_nil

/-! ## The run -/

/-- Device `c`'s array of window `w` after the run. -/
def finalA (c : Dev nD) (w : Fin cfg0.W) : Buf (Elt F) ((cfg0.win w).arr.view.loc (c : Thread nD τ)) := (dats m 0 c).arrAt w cfg0.N

set_option maxRecDepth 8000 in
/-- From any memory with all semaphores at zero, every fair execution ends, each device's arrays as computed and all semaphores at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation c m) (hne := fun w => by fin_cases w <;> exact Nat.succ_pos _) (harr := arr_whole0) (hstage := stage_whole0)
    (hshare := fun c => share_eq c m)
    (hdistinct := winFacts0.arr_inj)
    (O₀ := O₀) (howed₀ := fun _ => rfl) (howedN := fun _ => rfl)
    (L := L) (lv := lv) (hL := L_of_ne) (hwaits := fun c => waits c m)
    (G := dealt (ins m)) (G' := ready (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := fun c => start_intro c m ρ) (hin := fun c => phi_in c m) (hout := fun c => phi_out c m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.KernelIdeal.Final.lean ====
/-
# Final: what every array holds after the run
-/
module

public import proofs.«01_k».proof.Proof.KernelIdeal.Launch
public import Idealize.ShloMosaic.Lib.Pipeline.Value

@[expose] public section

noncomputable section

namespace Cert.KernelIdeal.Moe

open Cert.KernelIdeal Cert.KernelIdeal.Gen Cert.Slots
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

open Idealize.ShloMosaic.Pipeline (Dat Cfg Window BodyObligation cellOf)

variable (m : (ℓ : Loc nD τ sig) → Buf (Elt F) ℓ) (ρ : Dev nD → PrngReg)

/-! ## The arrays at the end -/

theorem final_0 : finalA m c (0 : Fin 6) = m ((c : Thread nD τ).loc main_arg0) := by
  unfold finalA
  exact (dats (F := F) m 0 c).arrAt_in (0 : Fin 6) rfl cfg0.N
theorem final_1 : finalA m c (1 : Fin 6) = m ((c : Thread nD τ).loc main_arg1) := by
  unfold finalA
  exact (dats (F := F) m 0 c).arrAt_in (1 : Fin 6) rfl cfg0.N
theorem final_2 : finalA m c (2 : Fin 6) = m ((c : Thread nD τ).loc main_arg2) := by
  unfold finalA
  exact (dats (F := F) m 0 c).arrAt_in (2 : Fin 6) rfl cfg0.N
theorem final_3 : finalA m c (3 : Fin 6) = m ((c : Thread nD τ).loc main_arg3) := by
  unfold finalA
  exact (dats (F := F) m 0 c).arrAt_in (3 : Fin 6) rfl cfg0.N
theorem final_4 : finalA m c (4 : Fin 6) = m ((c : Thread nD τ).loc main_arg4) := by
  unfold finalA
  exact (dats (F := F) m 0 c).arrAt_in (4 : Fin 6) rfl cfg0.N
/-- The block of argument 0 that the body reads is the whole argument. -/
theorem ins_x : (ins m).x c = m ((c : Thread nD τ).loc main_arg0) := by
  funext y
  show m ((c : Thread nD τ).loc main_arg0) ((win0_0.rect (0 : Fin 1)).emb y) = m ((c : Thread nD τ).loc main_arg0) y
  refine congrArg _ (funext fun a => Fin.ext ?_)
  exact Pipeline.Window.rect_emb_val_of_index_zero win0_0 (0 : Fin 1) a (by fin_cases a <;> rfl) y
/-- The block of argument 1 that the body reads is the whole argument. -/
theorem ins_rw : (ins m).rw c = m ((c : Thread nD τ).loc main_arg1) := by
  funext y
  show m ((c : Thread nD τ).loc main_arg1) ((win0_1.rect (0 : Fin 1)).emb y) = m ((c : Thread nD τ).loc main_arg1) y
  refine congrArg _ (funext fun a => Fin.ext ?_)
  exact Pipeline.Window.rect_emb_val_of_index_zero win0_1 (0 : Fin 1) a (by fin_cases a <;> rfl) y
/-- The block of argument 2 that the body reads is the whole argument. -/
theorem ins_ri : (ins m).ri c = m ((c : Thread nD τ).loc main_arg2) := by
  funext y
  show m ((c : Thread nD τ).loc main_arg2) ((win0_2.rect (0 : Fin 1)).emb y) = m ((c : Thread nD τ).loc main_arg2) y
  refine congrArg _ (funext fun a => Fin.ext ?_)
  exact Pipeline.Window.rect_emb_val_of_index_zero win0_2 (0 : Fin 1) a (by fin_cases a <;> rfl) y
/-- The block of argument 3 that the body reads is the whole argument. -/
theorem ins_ew : (ins m).ew c = m ((c : Thread nD τ).loc main_arg3) := by
  funext y
  show m ((c : Thread nD τ).loc main_arg3) ((win0_3.rect (0 : Fin 1)).emb y) = m ((c : Thread nD τ).loc main_arg3) y
  refine congrArg _ (funext fun a => Fin.ext ?_)
  exact Pipeline.Window.rect_emb_val_of_index_zero win0_3 (0 : Fin 1) a (by fin_cases a <;> rfl) y
/-- The block of argument 4 that the body reads is the whole argument. -/
theorem ins_sw : (ins m).sw c = m ((c : Thread nD τ).loc main_arg4) := by
  funext y
  show m ((c : Thread nD τ).loc main_arg4) ((win0_4.rect (0 : Fin 1)).emb y) = m ((c : Thread nD τ).loc main_arg4) y
  refine congrArg _ (funext fun a => Fin.ext ?_)
  exact Pipeline.Window.rect_emb_val_of_index_zero win0_4 (0 : Fin 1) a (by fin_cases a <;> rfl) y

/-- The result array is what the body leaves. -/
theorem final_5 : finalA m c (5 : Fin 6) = out3 (ins m) c := by
  unfold finalA
  have hE : ∀ (t : Fin 1) (y : S1024x1024.Idx), (win0_5.rect t).emb y = y := fun t y => funext fun a => Fin.ext
    (Pipeline.Window.rect_emb_val_of_index_zero win0_5 t a (by fin_cases t; fin_cases a <;> rfl) y)
  refine Dat.arrAt_eq_of_cover (dats m 0 c) (5 : Fin 6) (out3 (ins m) c) (fun t _ => ?_) (fun i => ⟨t0_0, flush0_5 t0_0, ?_⟩)
  · rw [fin_N0 t]
    funext y
    show out3 (ins m) c y = out3 (ins m) c ((win0_5.rect t0_0).emb y)
    exact congrArg (out3 (ins m) c) (hE t0_0 y).symm
  · have h := ((cfg0.win (5 : Fin 6)).blk t0_0).view.emb_mem_set i
    have h2 : ((cfg0.win (5 : Fin 6)).blk t0_0).view.emb i = i := hE t0_0 i
    rw [h2] at h
    exact h

/-- The run, array by array: the arguments as they were, the result as computed, the semaphores at zero. -/
theorem run_final : θ_run defs (onTc (τ := τ) (main (F := F))) ⟨m, fun _ => 0, ρ⟩
    (fun r => (∀ c : Dev nD,
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.mem ((c : Thread nD τ).loc main_v1) = out3 (ins m) c) ∧ r.2.sem = fun _ => 0) :=
  (θ_run defs _ _).mono (fun r h => ⟨fun c =>
    ⟨⟨(h.1 c (0 : Fin 6)).trans (final_0 c m), (h.1 c (1 : Fin 6)).trans (final_1 c m), (h.1 c (2 : Fin 6)).trans (final_2 c m),
      (h.1 c (3 : Fin 6)).trans (final_3 c m), (h.1 c (4 : Fin 6)).trans (final_4 c m)⟩,
      (h.1 c (5 : Fin 6)).trans (final_5 c m)⟩, h.2⟩) (run_main m ρ)

end Cert.KernelIdeal.Moe

end
-- ==== Proof.Frames.lean ====
/-
# Frames: the programs run, leave their arguments alone, and leave every semaphore at zero
-/
module

public import proofs.«01_k».proof.Defs
public import proofs.«01_k».proof.Proof.Kernel.Final
public import proofs.«01_k».proof.Proof.KernelIdeal.Final
public import proofs.«01_k».proof.Proof.Gen.ReferenceIdeal.Run

@[expose] public section

noncomputable section

namespace Cert.Proof

open Idealize.ShloMosaic Idealize.SL.Sem

/-- The kernel at its own number formats ends with its arguments unchanged and every counter at zero. -/
theorem frame_kernel : Cert.quiescent_Kernel := fun m g _ =>
  (θ_run Cert.Kernel.defs _ _).mono (fun _ h => ⟨fun c => (h.1 c).1, h.2⟩)
    (Cert.Kernel.Moe.run_final (F := Bits) m g)

/-- The same of the kernel over the extended reals. -/
theorem frame_ideal : Cert.quiescent_KernelIdeal := fun m g _ =>
  (θ_run Cert.KernelIdeal.defs _ _).mono (fun _ h => ⟨fun c => (h.1 c).1, h.2⟩)
    (Cert.KernelIdeal.Moe.run_final (F := Ideal) m g)

/-- The reference declares no semaphore; its run leaves its arguments as they were. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

end Cert.Proof
-- ==== Proof.Route.lean ====
/-
# Route: the arithmetic of routing tokens

Facts that mention no program. On words: the quotient rounded down by four, as it is lowered, and the bit of a
comparison read as a number. On places: a set of tokens is numbered in order (`place`), two tokens of it never share a
place, and a place is below the set's size. On extended reals: a sum against a one-hot row is the chosen entry, and a
nonnegative real factor may be moved into a sum.
-/
module

public import Idealize.ShloMosaic.Lib.Pointwise
public import Idealize.ShloMosaic.PureOps.Ideal.Laws

@[expose] public section

noncomputable section

namespace Cert.Moe

open Idealize.ShloMosaic

/-! ## Words -/

/-- A route `r` belongs to device `p`'s four experts. -/
def To (p : ℕ) (r : BitVec 32) : Prop := 4 * (p : ℤ) ≤ r.toInt ∧ r.toInt < 4 * (p : ℤ) + 4

instance (p : ℕ) (r : BitVec 32) : Decidable (To p r) := inferInstanceAs (Decidable (_ ∧ _))

/-- The quotient of a route by four rounded down, as lowered. -/
def quarter (r : BitVec 32) : BitVec 32 :=
  Scalar.select
    (IntOp.andi
      (IntOp.cmpi .ne (IntOp.subi (BitVec.setWidth 32 (IntOp.cmpi .sgt r 0#32)) (BitVec.setWidth 32 (IntOp.cmpi .slt r 0#32))) 1#32)
      (IntOp.cmpi .ne (IntOp.remsi .vector r 4#32) 0#32))
    (IntOp.subi (IntOp.divsi .vector r 4#32) 1#32) (IntOp.divsi .vector r 4#32)

theorem divsi_four (r : BitVec 32) : IntOp.divsi .vector r 4#32 = r.sdiv 4#32 := by
  unfold IntOp.divsi; rw [if_neg]; rintro (h | ⟨_, h⟩) <;> exact absurd h (by decide)

theorem remsi_four (r : BitVec 32) : IntOp.remsi .vector r 4#32 = r.srem 4#32 := by
  unfold IntOp.remsi; rw [if_neg]; rintro (h | ⟨_, h⟩) <;> exact absurd h (by decide)

/-- Read as a signed number it is the floor of a quarter. -/
theorem quarter_toInt (r : BitVec 32) : (quarter r).toInt = r.toInt / 4 := by
  have hlo := BitVec.le_toInt r
  have hhi := BitVec.toInt_lt (x := r)
  have h4 : (4#32 : BitVec 32).toInt = 4 := by decide
  have hq : (r.sdiv 4#32).toInt = r.toInt.tdiv 4 := by
    rw [BitVec.toInt_sdiv, h4, Int.bmod_eq_of_le_mul_two] <;> rw [Int.tdiv_eq_ediv, show Int.sign 4 = 1 from rfl] <;> split <;> simp at * <;> omega
  have hm : (r.srem 4#32).toInt = r.toInt.tmod 4 := by rw [BitVec.toInt_srem, h4]
  have hm0 : r.srem 4#32 = 0#32 ↔ r.toInt % 4 = 0 := by
    rw [← BitVec.toInt_inj, hm]
    simp only [BitVec.toInt_zero]
    rw [← Int.dvd_iff_tmod_eq_zero, Int.dvd_iff_emod_eq_zero]
  unfold quarter
  rw [divsi_four, remsi_four]
  have hgt : (0#32).slt r = decide (0 < r.toInt) := by rw [BitVec.slt_eq_decide]; simp
  have hlt : r.slt 0#32 = decide (r.toInt < 0) := by rw [BitVec.slt_eq_decide]; simp
  simp only [IntOp.cmpi, hgt, hlt, IntOp.subi, IntOp.andi, Scalar.select]
  by_cases hm' : r.srem 4#32 = 0#32
  · have := hm0.1 hm'
    rw [hm', if_neg (by simp), hq, Int.tdiv_eq_ediv, if_pos (.inr (by omega))]; omega
  · have h' : r.toInt % 4 ≠ 0 := fun h => hm' (hm0.2 h)
    have hb : (r.srem 4#32 != 0#32) = true := by simpa using hm'
    rw [hb]
    rcases lt_trichotomy r.toInt 0 with h | h | h
    · rw [decide_eq_true h, decide_eq_false (by omega), if_pos (by decide), BitVec.toInt_sub, hq, Int.tdiv_eq_ediv,
        if_neg (by omega), show Int.sign 4 = 1 from rfl, show (1#32 : BitVec 32).toInt = 1 from by decide, Int.bmod_eq_of_le_mul_two] <;>
        simp at * <;> omega
    · exact absurd (by omega) h'
    · rw [decide_eq_true h, decide_eq_false (by omega), if_neg (by decide), hq, Int.tdiv_eq_ediv, if_pos (.inl h.le)]; omega

/-- A route's quarter is the number of device `p` exactly when it is one of the device's experts. -/
theorem quarter_eq (p : Fin 4) (r : BitVec 32) : quarter r = BitVec.ofNat 32 p.val ↔ To p.val r := by
  rw [← BitVec.toInt_inj, quarter_toInt, show (BitVec.ofNat 32 p.val).toInt = (p.val : ℤ) by revert p; decide]
  unfold To; omega

/-- A route is the word of expert `j` of device `p` exactly when it reads as that number. -/
theorem word_eq (n : ℕ) (hn : n < 16) (r : BitVec 32) : r = BitVec.ofNat 32 n ↔ r.toInt = (n : ℤ) := by
  rw [← BitVec.toInt_inj, show (BitVec.ofNat 32 n).toInt = (n : ℤ) by interval_cases n <;> decide]

/-- The bits of an equality and of a signed comparison. -/
theorem cmpi_eq (a b : BitVec 32) : IntOp.cmpi .eq a b = BitVec.ofBool (decide (a = b)) := rfl
theorem cmpi_slt (a b : BitVec 32) : IntOp.cmpi .slt a b = BitVec.ofBool (decide (a.toInt < b.toInt)) := by
  show BitVec.ofBool (a.slt b) = _; rw [BitVec.slt_eq_decide]
theorem cmpi_sge (a b : BitVec 32) : IntOp.cmpi .sge a b = BitVec.ofBool (decide (b.toInt ≤ a.toInt)) := by
  show BitVec.ofBool (b.sle a) = _; rw [BitVec.sle_eq_decide]
theorem cmpi_sle (a b : BitVec 32) : IntOp.cmpi .sle a b = BitVec.ofBool (decide (a.toInt ≤ b.toInt)) := by
  show BitVec.ofBool (a.sle b) = _; rw [BitVec.sle_eq_decide]

/-- A proposition's bit is set when it holds. -/
theorem bit_one (p : Prop) [Decidable p] : BitVec.ofBool (decide p) = 1#1 ↔ p := by
  by_cases h : p <;> simp [h]

/-- The word of a small natural number reads as that number. -/
theorem toInt_small (k : ℕ) (hk : k < 2 ^ 31) : (BitVec.ofNat 32 k).toInt = (k : ℤ) := by
  rw [BitVec.toInt_eq_toNat_of_lt (by rw [BitVec.toNat_ofNat]; omega), BitVec.toNat_ofNat]; omega

/-- A widened bit read as a number. -/
theorem sitofp_bit (b : Bool) :
    FloatOps.sitofp (F := Ideal) .f32 (BitVec.setWidth 32 (BitVec.ofBool b)) = if b then (1 : EReal) else 0 := by
  cases b
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

/-- A small natural number, read back from an extended real as a word. -/
theorem fptosi_nat (k : ℕ) (hk : k ≤ 1024) : Ideal.fptosi 32 (k : EReal) = BitVec.ofNat 32 k := by
  unfold Ideal.fptosi
  rw [show ((k : EReal)) = (((k : ℝ)) : EReal) from rfl, Ideal.toIntClamped_coe, if_pos (Nat.cast_nonneg k), Int.floor_natCast,
    min_eq_right (by norm_num; omega), max_eq_right (by norm_num)]
  exact BitVec.ofInt_natCast ..

/-! ## Places -/

section Places

variable {N : ℕ} (H : Fin N → Prop) [DecidablePred H]

/-- How many of the set come before `n`. -/
def place (n : Fin N) : ℕ := (Finset.univ.filter fun n' => n' < n ∧ H n').card

theorem place_lt {n : Fin N} (h : H n) : place H n < (Finset.univ.filter H).card := by
  refine Finset.card_lt_card ⟨fun a ha => ?_, fun hs => ?_⟩
  · simp only [Finset.mem_filter, Finset.mem_univ, true_and] at ha ⊢; exact ha.2
  · have := hs (by simpa using h : n ∈ Finset.univ.filter H)
    simp at this

theorem place_le (n : Fin N) : place H n ≤ N := (Finset.card_le_univ _).trans (by simp)

theorem place_strict {a b : Fin N} (h : a < b) (ha : H a) : place H a < place H b := by
  refine Finset.card_lt_card ⟨fun x hx => ?_, fun hs => ?_⟩
  · simp only [Finset.mem_filter, Finset.mem_univ, true_and] at hx ⊢; exact ⟨hx.1.trans h, hx.2⟩
  · have := hs (by simpa using ⟨h, ha⟩ : a ∈ Finset.univ.filter fun n' => n' < b ∧ H n')
    simp at this

/-- Two members at one place are the same. -/
theorem place_inj {a b : Fin N} (ha : H a) (hb : H b) (h : place H a = place H b) : a = b := by
  rcases lt_trichotomy a b with hl | hl | hl
  · have := place_strict H hl ha; omega
  · exact hl
  · have := place_strict H hl hb; omega

/-- The place as the sum of the indicator over the earlier ones. -/
theorem sum_place (n : Fin N) :
    (∑ n' : Fin N, (if n' < n then (1 : EReal) else 0) * (if H n' then 1 else 0)) = (place H n : EReal) := by
  rw [place, Finset.card_filter, Nat.cast_sum]
  refine Finset.sum_congr rfl fun a _ => ?_
  by_cases h1 : a < n <;> by_cases h2 : H a <;> simp [h1, h2]

/-- The one-hot entry of member `n` at place `k`. -/
def hot (n : Fin N) (k : ℕ) : EReal := if H n ∧ place H n = k then 1 else 0

/-- The column of a member's place picks that member. -/
theorem sum_hot_col {n : Fin N} (h : H n) (f : Fin N → EReal) : ∑ n', hot H n' (place H n) * f n' = f n := by
  rw [Finset.sum_eq_single n]
  · simp [hot, h]
  · intro b _ hb
    rw [hot, if_neg fun ⟨h1, h2⟩ => hb (place_inj H h1 h h2), zero_mul]
  · simp

/-- The row of a member picks its place, the row of a non-member picks nothing. -/
theorem sum_hot_row {K : ℕ} (n : Fin N) (hK : H n → place H n < K) (f : Fin K → EReal) :
    ∑ k : Fin K, hot H n k.val * f k = if h : H n then f ⟨place H n, hK h⟩ else 0 := by
  by_cases h : H n
  · rw [dif_pos h, Finset.sum_eq_single ⟨place H n, hK h⟩]
    · simp [hot, h]
    · intro b _ hb
      rw [hot, if_neg fun hp => hb (Fin.ext hp.2.symm), zero_mul]
    · simp
  · rw [dif_neg h]
    exact Finset.sum_eq_zero fun k _ => by rw [hot, if_neg fun hp => h hp.1, zero_mul]

end Places

/-! ## Extended reals -/

/-- A nonnegative real factor may be moved into a sum. -/
theorem mul_sum_of_real {ι : Type} (s : Finset ι) (g : EReal) (h0 : 0 ≤ g) (ht : g ≠ ⊤) (f : ι → EReal) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h0 ht, ih]

/-- A real sum, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One entry of a normalised row of exponentials: a nonnegative real when every score is a real. -/
theorem prob_real {K : ℕ} (s : Fin K → EReal) (hs : ∀ e, s e ≠ ⊥ ∧ s e ≠ ⊤) (M : EReal) (hM : M ≠ ⊥ ∧ M ≠ ⊤) (e : Fin K) :
    0 ≤ Ideal.div (Ideal.exp (s e - M)) (∑ e', Ideal.exp (s e' - M)) ∧
      Ideal.div (Ideal.exp (s e - M)) (∑ e', Ideal.exp (s e' - M)) ≠ ⊤ := by
  lift M to ℝ using ⟨hM.2, hM.1⟩
  have hx : ∀ e, ∃ r : ℝ, 0 < r ∧ Ideal.exp (s e - M) = (r : EReal) := fun e => by
    obtain ⟨t, ht⟩ : ∃ t : ℝ, s e = (t : EReal) := ⟨(s e).toReal, (EReal.coe_toReal (hs e).2 (hs e).1).symm⟩
    exact ⟨Real.exp (t - M), Real.exp_pos _, by rw [ht, ← EReal.coe_sub]; rfl⟩
  choose r hr hre using hx
  have hsum : ∑ e', Ideal.exp (s e' - M) = ((∑ e', r e' : ℝ) : EReal) := by
    rw [coe_sum]; exact Finset.sum_congr rfl fun e _ => hre e
  have hpos : 0 < ∑ e', r e' := Finset.sum_pos (fun e _ => hr e) ⟨e, Finset.mem_univ e⟩
  rw [hsum, hre, Ideal.div_coe hpos.ne', ← EReal.coe_mul]
  exact ⟨by exact_mod_cast mul_nonneg (hr e).le (one_div_nonneg.2 hpos.le), EReal.coe_ne_top _⟩

/-- The maximum of a nonempty row of reals, started from minus infinity, is a real. -/
theorem max_real {K : ℕ} (s : Fin (K + 1) → EReal) (hs : ∀ e, s e ≠ ⊥ ∧ s e ≠ ⊤) :
    Finset.univ.fold max (⊥ : EReal) s ≠ ⊥ ∧ Finset.univ.fold max (⊥ : EReal) s ≠ ⊤ := by
  constructor
  · have : s 0 ≤ Finset.univ.fold max (⊥ : EReal) s := (Finset.le_fold_max _).2 (.inr ⟨0, Finset.mem_univ _, le_rfl⟩)
    exact fun h => (hs 0).1 (le_bot_iff.1 (h ▸ this))
  · refine ne_of_lt ((Finset.fold_max_lt _).2 ⟨bot_lt_top, fun e _ => lt_top_iff_ne_top.2 (hs e).2⟩)

end Cert.Moe

end
-- ==== Proof.KernelIdeal.Dispatch.lean ====
/-
# Dispatch: the packed rows, entry by entry

Over the extended reals. Row `n` of device `c`'s packing is the token, its gate and its route; token `n` goes to the
device `q` ahead exactly when its route is one of that device's experts; the one-hot matrices place those tokens in order;
the row packed at a token's place is that token's row.
-/
module

public import proofs.«01_k».proof.Proof.KernelIdeal.Vals
public import proofs.«01_k».proof.Proof.Route

@[expose] public section

set_option maxRecDepth 16384

noncomputable section

namespace Cert.KernelIdeal.Moe

open Cert.KernelIdeal Cert.KernelIdeal.Gen Cert.Moe
open Idealize.ShloMosaic Idealize.ShloMosaic.TcCoe

variable (I : Ins Ideal)

/-- Router score of token `n` for expert `e`. -/
def score (c : Dev nD) (n : Fin 1024) (e : Fin 16) : EReal := ∑ d : Fin 512, I.x c (ix2 n d) * I.rw c (ix2 d e)
/-- The largest score of a token. -/
def top (c : Dev nD) (n : Fin 1024) : EReal := Finset.univ.fold max (Ideal.ofBits .f32 4286578688#32) (score I c n)
/-- The probability of an expert. -/
def prob (c : Dev nD) (n : Fin 1024) (e : Fin 16) : EReal :=
  Ideal.div (Ideal.exp (score I c n e - top I c n)) (∑ e', Ideal.exp (score I c n e' - top I c n))
/-- The route of token `n`. -/
def rt (c : Dev nD) (n : Fin 1024) : BitVec 32 := I.ri c (ix2 n 0)
/-- The gate of token `n`: the probability of its route. -/
def gate (c : Dev nD) (n : Fin 1024) : EReal := ∑ e : Fin 16, prob I c n e * (if rt I c n = BitVec.ofNat 32 e.val then 1 else 0)

theorem pay3_apply (c : Dev nD) (n : Fin 1024) (e : Fin 16) :
    k0_pay3 (I.x c) (I.rw c) (ix2 n e) = Ideal.exp (score I c n e - top I c n) := by
  pointwise [k0_pay3, k0_pay2]
  rfl

theorem pay4_apply (c : Dev nD) (n : Fin 1024) (e : Fin 16) :
    k0_pay4 (I.x c) (I.rw c) (ix2 n e) = ∑ e', Ideal.exp (score I c n e' - top I c n) := by
  pointwise [k0_pay4]
  exact Finset.sum_congr rfl fun e' _ => pay3_apply I c n e'

theorem pl_token (c : Dev nD) (n : Fin 1024) (d : Fin 512) : pl I c (ix2 n ⟨d.val, by omega⟩) = I.x c (ix2 n d) := by
  unfold pl
  pointwise [k0_pay5, k0_pay2]

theorem pl_gate (c : Dev nD) (n : Fin 1024) : pl I c (ix2 n 512) = gate I c n := by
  unfold pl
  pointwise [k0_pay5]
  exact Finset.sum_congr rfl fun e _ => by
    rw [pay3_apply, pay4_apply, cmpi_eq, sitofp_bit]; simp only [decide_eq_true_eq]; rfl

theorem pl_route (c : Dev nD) (n : Fin 1024) : pl I c (ix2 n 513) = (((rt I c n).toInt : ℝ) : EReal) := by
  unfold pl
  pointwise [k0_pay5]
  rfl

/-! ## Who goes where -/

/-- Token `n` of device `c` goes to the device `q` ahead. -/
def Goes (c : Dev nD) (q : Fin 4) (n : Fin 1024) : Prop := To ((c.val + q.val) % 4) (rt I c n)

instance (c : Dev nD) (q : Fin 4) : DecidablePred (Goes I c q) := fun n => inferInstanceAs (Decidable (To _ _))

theorem dest_apply (c : Dev nD) (n : Fin 1024) : dest I c (ix2 n 0) = quarter (rt I c n) := by
  unfold dest
  pointwise [k0_pay6]
  rfl

theorem order_apply (c : Dev nD) (n : Fin 1024) (q : Fin 4) :
    IntOp.remsi .vector (order c (ix2 n q)) 4#32 = BitVec.ofNat 32 ((c.val + q.val) % 4) := by
  have h : order c (ix2 n q) = IntOp.addi (me c) (BitVec.ofNat 32 q.val) := by
    unfold order
    pointwise [k0_pay7]
  rw [h]; clear h; revert c q; decide

theorem hit_apply (c : Dev nD) (n : Fin 1024) (q : Fin 4) : hit I c (ix2 n q) = if Goes I c q n then (1 : EReal) else 0 := by
  unfold hit
  pointwise [k0_pay8]
  rw [dest_apply, order_apply, cmpi_eq, sitofp_bit]
  simp only [decide_eq_true_eq]
  exact if_congr (quarter_eq ⟨(c.val + q.val) % 4, Nat.mod_lt _ (by decide)⟩ _) rfl rfl

theorem rank_apply (c : Dev nD) (n : Fin 1024) (q : Fin 4) : rank I c (ix2 n q) = (place (Goes I c q) n : EReal) := by
  unfold rank
  pointwise [k0_pay9]
  rw [← sum_place]
  refine Finset.sum_congr rfl fun a _ => ?_
  rw [show k0_pay8 (dest I c) (order c) (ix2 a q) = hit I c (ix2 a q) from rfl, hit_apply, cmpi_slt, sitofp_bit]
  simp only [decide_eq_true_eq]
  congr 1
  refine if_congr ?_ rfl rfl
  rw [toInt_small _ (by omega), toInt_small _ (by omega)]
  exact Nat.cast_lt

/-! ## The one-hot matrices and the rows packed -/

/-- The kernel's entry of a one-hot matrix, in its place and its indicator. -/
theorem hot_eq (c : Dev nD) (q : Fin 4) (n : Fin 1024) (k : ℕ) (hk : k < 384) (a b : EReal) (ha : a = rank I c (ix2 n q)) (hb : b = hit I c (ix2 n q)) :
    Scalar.select (IntOp.andi (IntOp.cmpi .eq (BitVec.ofNat 32 k) (Ideal.fptosi 32 a))
      (BitVec.ofBool (decide (Ideal.ofBits .f32 1056964608#32 < b)))) (1 : EReal) 0 = hot (Goes I c q) n k := by
  rw [ha, hb, rank_apply, hit_apply, fptosi_nat _ (place_le _ _), cmpi_eq]
  have hh : ∀ p : Prop, ∀ _ : Decidable p, decide (Ideal.ofBits .f32 1056964608#32 < if p then (1 : EReal) else 0) = decide p := by
    intro p _
    have hv : Ideal.ofBits .f32 1056964608#32 = ((1 / 2 : ℝ) : EReal) := by
      rw [show (1 / 2 : ℝ) = 8388608 * (2 ^ 24)⁻¹ by norm_num, EReal.coe_mul]
      simp [Ideal.ofBits, Ideal.ieee]
    have h0 : ¬ Ideal.ofBits .f32 1056964608#32 < (0 : EReal) := by
      rw [hv, not_lt]; exact_mod_cast (by norm_num : (0 : ℝ) ≤ 1 / 2)
    have h1 : Ideal.ofBits .f32 1056964608#32 < (1 : EReal) := by
      rw [hv]; exact_mod_cast (by norm_num : (1 / 2 : ℝ) < 1)
    by_cases hp : p
    · simp only [hp, if_true, h1]
    · simp only [hp, if_false, h0]
  rw [hh]
  have hw : (BitVec.ofNat 32 k = BitVec.ofNat 32 (place (Goes I c q) n)) ↔ place (Goes I c q) n = k := by
    have := place_le (Goes I c q) n
    rw [← BitVec.toNat_inj, BitVec.toNat_ofNat, BitVec.toNat_ofNat, Nat.mod_eq_of_lt (by omega), Nat.mod_eq_of_lt (by omega)]
    exact eq_comm
  simp only [hw, hot]
  by_cases h1 : Goes I c q n <;> by_cases h2 : place (Goes I c q) n = k <;> simp [h1, h2, Scalar.select, IntOp.andi]

theorem mat0_apply (c : Dev nD) (n : Fin 1024) (k : Fin 384) :
    k0_pay19 (F := Ideal) (hit I c) (rank I c) places (ix2 n k) = hot (Goes I c 0) n k.val := by
  unfold places
  pointwise [k0_pay19]
  exact hot_eq I c 0 n k.val k.isLt _ _ rfl rfl
theorem oh0_apply (c : Dev nD) (n : Fin 1024) (k : Fin 384) : oh0 I c (ix3 0 n k) = hot (Goes I c 0) n k.val := by
  rw [← mat0_apply]; unfold oh0
  pointwise [k0_pay20]
theorem ps0_apply (c : Dev nD) (k : Fin 384) (d : Fin 528) :
    ps0 I c (ix3 0 k d) = ∑ n : Fin 1024, oh0 I c (ix3 0 n k) * pl I c (ix2 n d) := by
  simp only [oh0_apply, ← mat0_apply]
  unfold ps0
  pointwise [k0_pay21]

theorem mat1_apply (c : Dev nD) (n : Fin 1024) (k : Fin 384) :
    k0_pay10 (F := Ideal) (dest I c) (order c) (ix2 n k) = hot (Goes I c 1) n k.val := by
  pointwise [k0_pay10]
  exact hot_eq I c 1 n k.val k.isLt _ _ rfl rfl
theorem oh1_apply (c : Dev nD) (n : Fin 1024) (k : Fin 384) : oh1 I c (ix3 0 n k) = hot (Goes I c 1) n k.val := by
  rw [← mat1_apply]; unfold oh1
  pointwise [k0_pay11]
theorem ps1_apply (c : Dev nD) (k : Fin 384) (d : Fin 528) :
    ps1 I c (ix3 0 k d) = ∑ n : Fin 1024, oh1 I c (ix3 0 n k) * pl I c (ix2 n d) := by
  simp only [oh1_apply, ← mat1_apply]
  unfold ps1
  pointwise [k0_pay12]

theorem mat2_apply (c : Dev nD) (n : Fin 1024) (k : Fin 384) :
    k0_pay13 (F := Ideal) (hit I c) (rank I c) places (ix2 n k) = hot (Goes I c 2) n k.val := by
  unfold places
  pointwise [k0_pay13]
  exact hot_eq I c 2 n k.val k.isLt _ _ rfl rfl
theorem oh2_apply (c : Dev nD) (n : Fin 1024) (k : Fin 384) : oh2 I c (ix3 0 n k) = hot (Goes I c 2) n k.val := by
  rw [← mat2_apply]; unfold oh2
  pointwise [k0_pay14]
theorem ps2_apply (c : Dev nD) (k : Fin 384) (d : Fin 528) :
    ps2 I c (ix3 0 k d) = ∑ n : Fin 1024, oh2 I c (ix3 0 n k) * pl I c (ix2 n d) := by
  simp only [oh2_apply, ← mat2_apply]
  unfold ps2
  pointwise [k0_pay15]

theorem mat3_apply (c : Dev nD) (n : Fin 1024) (k : Fin 384) :
    k0_pay16 (F := Ideal) (hit I c) (rank I c) places (ix2 n k) = hot (Goes I c 3) n k.val := by
  unfold places
  pointwise [k0_pay16]
  exact hot_eq I c 3 n k.val k.isLt _ _ rfl rfl
theorem oh3_apply (c : Dev nD) (n : Fin 1024) (k : Fin 384) : oh3 I c (ix3 0 n k) = hot (Goes I c 3) n k.val := by
  rw [← mat3_apply]; unfold oh3
  pointwise [k0_pay17]
theorem ps3_apply (c : Dev nD) (k : Fin 384) (d : Fin 528) :
    ps3 I c (ix3 0 k d) = ∑ n : Fin 1024, oh3 I c (ix3 0 n k) * pl I c (ix2 n d) := by
  simp only [oh3_apply, ← mat3_apply]
  unfold ps3
  pointwise [k0_pay18]

/-- The rows packed for the device `q` ahead, and their one-hot matrix, by number. -/
def psq (q : Fin 4) (c : Dev nD) : Vec Ideal S1x384x528 .bf16 := match q with | 0 => ps0 I c | 1 => ps1 I c | 2 => ps2 I c | 3 => ps3 I c
def ohq (q : Fin 4) (c : Dev nD) : Vec Ideal S1x1024x384 .f32 := match q with | 0 => oh0 I c | 1 => oh1 I c | 2 => oh2 I c | 3 => oh3 I c

theorem ohq_apply (q : Fin 4) (c : Dev nD) (n : Fin 1024) (k : Fin 384) : ohq I q c (ix3 0 n k) = hot (Goes I c q) n k.val := by
  fin_cases q
  exacts [oh0_apply I c n k, oh1_apply I c n k, oh2_apply I c n k, oh3_apply I c n k]

/-- At a token's place the row packed is the token's. -/
theorem psq_place (q : Fin 4) (c : Dev nD) (n : Fin 1024) (h : Goes I c q n) (hk : place (Goes I c q) n < 384) (d : Fin 528) :
    psq I q c (ix3 0 ⟨place (Goes I c q) n, hk⟩ d) = pl I c (ix2 n d) := by
  have hps : ∀ k, psq I q c (ix3 0 k d) = ∑ n : Fin 1024, ohq I q c (ix3 0 n k) * pl I c (ix2 n d) := by
    intro k; fin_cases q
    exacts [ps0_apply I c k d, ps1_apply I c k d, ps2_apply I c k d, ps3_apply I c k d]
  rw [hps]
  simp only [ohq_apply]
  exact sum_hot_col (Goes I c q) h fun n => pl I c (ix2 n d)

end Cert.KernelIdeal.Moe

end
-- ==== Proof.KernelIdeal.Experts.lean ====
/-
# Experts: what a device computes for a row packed for it

Over the extended reals. A device adds up its four experts on a row, each weighted by the row's gate if the row's route
is that expert and by zero otherwise.
-/
module

public import proofs.«01_k».proof.Proof.KernelIdeal.Dispatch

@[expose] public section

set_option maxRecDepth 16384

noncomputable section

namespace Cert.KernelIdeal.Moe

open Cert.KernelIdeal Cert.KernelIdeal.Gen Cert.Moe
open Idealize.ShloMosaic Idealize.ShloMosaic.TcCoe

variable (I : Ins Ideal)

/-- Expert `j` of device `c` on row `k` of the packed rows `p`, weighted by the row's gate if that expert is its route. -/
def term (c : Dev nD) (p : Vec Ideal S1x384x528 .bf16) (j : Fin 4) (k : Fin 384) (h : Fin 1024) : EReal :=
  ∑ d : Fin 512, (if p (ix3 0 k 513) = (((Scalar.addi (Scalar.muli (me c) 4#32) (BitVec.ofNat 32 j.val)).toInt : ℝ) : EReal) then p (ix3 0 k 512) else 0)
    * p (ix3 0 k ⟨d.val, by omega⟩) * wt I j c (ix3 0 d h)

/-- The four experts' terms added up. -/
def terms (c : Dev nD) (p : Vec Ideal S1x384x528 .bf16) (k : Fin 384) (h : Fin 1024) : EReal :=
  ((term I c p 0 k h + term I c p 1 k h) + term I c p 2 k h) + term I c p 3 k h

/-! ## As the kernel composes it -/

/-- One expert's product: the rows, each times its gate where its route is number `e` and times zero elsewhere, by the weights. -/
def one (X : FVec Ideal S384x512 .f32) (G R : FVec Ideal S384x1 .f32) (e : BitVec 32) (w : Vec Ideal S1x512x1024 .f32) : FVec Ideal S384x1024 .f32 :=
  matmul dot_S384x512_S512x1024_S384x1024_1_0_0_1_n_n none
    (mulf (broadcastTo S384x512 (select (cmpf .oeq R (broadcast S384x1 (Scalar.sitofp .f32 e))) G
      (broadcast S384x1 (Scalar.ofBits .f32 0x00000000#32))) broadcasts_S384x1_S384x512) X)
    (shapeCast S512x1024 w shapeCasts_S1x512x1024_S512x1024 : FVec Ideal S512x1024 .f32) (constant S384x1024 .f32 0x00000000#32)

/-- Four products added up and rounded. -/
def four (a b c d : FVec Ideal S384x1024 .f32) : FVec Ideal S1x384x1024 .bf16 :=
  shapeCast S1x384x1024 (truncf .bf16 (addf (addf (addf a b) c) d) bitsLt_bf16_f32) shapeCasts_S384x1024_S1x384x1024

theorem one_apply (p : Vec Ideal S1x384x528 .bf16) (e : BitVec 32) (w : Vec Ideal S1x512x1024 .f32) (k : Fin 384) (h : Fin 1024) :
    one (k0_pay23 p) (k0_pay24 p) (k0_pay25 p) e w (ix2 k h)
      = ∑ d : Fin 512, (if p (ix3 0 k 513) = ((e.toInt : ℝ) : EReal) then p (ix3 0 k 512) else 0) * p (ix3 0 k ⟨d.val, by omega⟩) * w (ix3 0 d h) := by
  pointwise [one, k0_pay25, k0_pay24, k0_pay23, k0_pay22]

theorem four_apply (a b c d : FVec Ideal S384x1024 .f32) (k : Fin 384) (h : Fin 1024) :
    four a b c d (ix3 0 k h) = ((a (ix2 k h) + b (ix2 k h)) + c (ix2 k h)) + d (ix2 k h) := by
  pointwise [four]

/-- The number of expert `j` of a device. -/
def num (c : Dev nD) (j : ℕ) : BitVec 32 := Scalar.addi (Scalar.muli (me c) 4#32) (BitVec.ofNat 32 j)

/-- Four experts on the packed rows `p`. -/
def all4 (c : Dev nD) (p : Vec Ideal S1x384x528 .bf16) : FVec Ideal S1x384x1024 .bf16 :=
  four (one (k0_pay23 p) (k0_pay24 p) (k0_pay25 p) (num c 0) (wt I 0 c)) (one (k0_pay23 p) (k0_pay24 p) (k0_pay25 p) (num c 1) (wt I 1 c))
    (one (k0_pay23 p) (k0_pay24 p) (k0_pay25 p) (num c 2) (wt I 2 c)) (one (k0_pay23 p) (k0_pay24 p) (k0_pay25 p) (num c 3) (wt I 3 c))

theorem all4_apply (c : Dev nD) (p : Vec Ideal S1x384x528 .bf16) (k : Fin 384) (h : Fin 1024) :
    all4 I c p (ix3 0 k h) = terms I c p k h := by
  unfold all4 terms term
  rw [four_apply, one_apply, one_apply, one_apply, one_apply]
  rfl

theorem ys0_eq (c : Dev nD) : ys0 I c = all4 I c (ps0 I c) := rfl
theorem ys1_eq (c : Dev nD) : ys1 I c = all4 I c (psr I 0 (sh 2 c)) := rfl
theorem ys2_eq (c : Dev nD) : ys2 I c = all4 I c (psr I 1 (sh 1 c)) := rfl
theorem ys3_eq (c : Dev nD) : ys3 I c = all4 I c (psr I 2 (sh 0 c)) := rfl

/-! ## Read at a token's place -/

/-- The device `q` ahead. -/
def ahead (q : Fin 4) (c : Dev nD) : Dev nD := ⟨(c.val + q.val) % 4, Nat.mod_lt _ (by decide)⟩

/-- Token `n` of device `c` under expert `j` of device `e`, times its gate if that expert is its route, else zero. -/
def share (c e : Dev nD) (j : Fin 4) (n h : Fin 1024) : EReal :=
  ∑ d : Fin 512, (if (rt I c n).toInt = 4 * (e.val : ℤ) + j.val then gate I c n else 0) * I.x c (ix2 n d) * wt I j e (ix3 0 d h)

theorem num_toInt (c : Dev nD) (j : Fin 4) : (num c j.val).toInt = 4 * (c.val : ℤ) + j.val := by
  revert c j; decide

theorem term_place (q : Fin 4) (c e : Dev nD) (n h : Fin 1024) (hn : Goes I c q n) (hk : place (Goes I c q) n < 384) (j : Fin 4) :
    term I e (psq I q c) j ⟨_, hk⟩ h = share I c e j n h := by
  unfold term share
  refine Finset.sum_congr rfl fun d _ => ?_
  rw [psq_place I q c n hn hk, psq_place I q c n hn hk, psq_place I q c n hn hk, pl_token, pl_gate, pl_route]
  congr 2
  refine if_congr ?_ rfl rfl
  rw [← num_toInt e j]
  unfold num
  rw [EReal.coe_eq_coe_iff, Int.cast_inj]

end Cert.KernelIdeal.Moe

end
-- ==== Proof.KernelIdeal.Combine.lean ====
/-
# Combine: the result block, entry by entry

Over the extended reals, for a device sending at most 384 tokens to any one device. Token `n`'s row of the result is the
shared product and, for every device in turn, the token's shares of that device's four experts.
-/
module

public import proofs.«01_k».proof.Proof.KernelIdeal.Experts

@[expose] public section

set_option maxRecDepth 16384

noncomputable section

namespace Cert.KernelIdeal.Moe

open Cert.KernelIdeal Cert.KernelIdeal.Gen Cert.Moe
open Idealize.ShloMosaic Idealize.ShloMosaic.TcCoe

variable (I : Ins Ideal)

/-- No device sends more than 384 tokens to any one device. -/
def Fits : Prop := ∀ (c : Dev nD) (q : Fin 4), (Finset.univ.filter (Goes I c q)).card ≤ 384

/-- The shares of device `e`'s four experts. -/
def shares (c e : Dev nD) (n h : Fin 1024) : EReal := ((share I c e 0 n h + share I c e 1 n h) + share I c e 2 n h) + share I c e 3 n h

/-- A token's shares at a device it does not go to are zero. -/
theorem shares_zero (q : Fin 4) (c : Dev nD) (n h : Fin 1024) (hn : ¬ Goes I c q n) : shares I c (ahead q c) n h = 0 := by
  have hz : ∀ j, share I c (ahead q c) j n h = 0 := fun j => by
    refine Finset.sum_eq_zero fun d _ => ?_
    rw [if_neg, zero_mul, zero_mul]
    intro hr
    refine hn ⟨?_, ?_⟩ <;> rw [hr] <;> simp only [ahead] <;> omega
  simp only [shares, hz, add_zero]

/-- What one returned block adds to a token's row: its shares there. -/
theorem back_apply (hf : Fits I) (q : Fin 4) (c : Dev nD) (n h : Fin 1024) :
    ∑ k : Fin 384, ohq I q c (ix3 0 n k) * all4 I (ahead q c) (psq I q c) (ix3 0 k h) = shares I c (ahead q c) n h := by
  simp only [ohq_apply]
  rw [sum_hot_row (Goes I c q) n fun hn => (place_lt (Goes I c q) hn).trans_le (hf c q)]
  by_cases hn : Goes I c q n
  · rw [dif_pos hn, all4_apply]
    unfold terms shares
    rw [term_place I q c _ n h hn, term_place I q c _ n h hn, term_place I q c _ n h hn, term_place I q c _ n h hn]
  · rw [dif_neg hn, shares_zero I q c n h hn]

/-- The shared product of token `n`. -/
def shared (c : Dev nD) (n h : Fin 1024) : EReal := ∑ d : Fin 512, I.x c (ix2 n d) * I.sw c (ix2 d h)

theorem out0_apply (hf : Fits I) (c : Dev nD) (n h : Fin 1024) :
    out0 I c (ix2 n h) = shared I c n h + shares I c (ahead 0 c) n h := by
  rw [← back_apply I hf, show all4 I (ahead 0 c) (psq I 0 c) = ys0 I c from by
    rw [ys0_eq, show ahead 0 c = c by revert c; decide]; rfl, show ohq I 0 c = oh0 I c from rfl]
  unfold out0 shared
  pointwise [k0_pay31, k0_pay30, k0_pay2]

theorem out1_apply (hf : Fits I) (c : Dev nD) (n h : Fin 1024) :
    out1 I c (ix2 n h) = out0 I c (ix2 n h) + shares I c (ahead 1 c) n h := by
  rw [← back_apply I hf, show all4 I (ahead 1 c) (psq I 1 c) = ysr I 0 (sh 0 c) from by
    show _ = ys1 I _; rw [ys1_eq, show sh 2 (sh 0 c) = c from sh_rev 0 c]; rfl, show ohq I 1 c = oh1 I c from rfl]
  unfold out1
  pointwise [k0_pay54]

theorem out2_apply (hf : Fits I) (c : Dev nD) (n h : Fin 1024) :
    out2 I c (ix2 n h) = out1 I c (ix2 n h) + shares I c (ahead 2 c) n h := by
  rw [← back_apply I hf, show all4 I (ahead 2 c) (psq I 2 c) = ysr I 1 (sh 1 c) from by
    show _ = ys2 I _; rw [ys2_eq, show sh 1 (sh 1 c) = c from sh_rev 1 c]; rfl, show ohq I 2 c = oh2 I c from rfl]
  unfold out2
  pointwise [k0_pay55]

theorem out3_apply (hf : Fits I) (c : Dev nD) (n h : Fin 1024) :
    out3 I c (ix2 n h) = out2 I c (ix2 n h) + shares I c (ahead 3 c) n h := by
  rw [← back_apply I hf, show all4 I (ahead 3 c) (psq I 3 c) = ysr I 2 (sh 2 c) from by
    show _ = ys3 I _; rw [ys3_eq, show sh 0 (sh 2 c) = c from sh_rev 2 c]; rfl, show ohq I 3 c = oh3 I c from rfl]
  unfold out3
  pointwise [k0_pay1]

/-- Counting the devices from `c` on names each of them once. -/
def turn (c : Dev nD) : Fin 4 ≃ Dev nD where
  toFun q := ahead q c
  invFun e := ⟨(e.val + 4 - c.val) % 4, Nat.mod_lt _ (by decide)⟩
  left_inv := by revert c; decide
  right_inv := by revert c; decide

/-- The finished row: the shared product and the shares of all sixteen experts, device by device. -/
theorem out_apply (hf : Fits I) (c : Dev nD) (n h : Fin 1024) :
    out3 I c (ix2 n h) = shared I c n h + ∑ e : Dev nD, ∑ j : Fin 4, share I c e j n h := by
  rw [out3_apply I hf, out2_apply I hf, out1_apply I hf, out0_apply I hf]
  have h4 : ∀ e, ∑ j : Fin 4, share I c e j n h = shares I c e n h := fun e => Fin.sum_univ_four _
  simp only [h4]
  rw [show (∑ e : Dev nD, shares I c e n h) = ∑ q : Fin 4, shares I c (ahead q c) n h from
    (Equiv.sum_comp (turn c)
      fun e => shares I c e n h).symm, Fin.sum_univ_four]
  simp only [add_assoc]

end Cert.KernelIdeal.Moe

end
-- ==== Proof.ReferenceIdeal.Value.lean ====
/-
# Value: the reference's result, entry by entry

Over the extended reals: the shared product, plus every expert's product times the probability of that expert where it is
the token's route and zero elsewhere.
-/
module

public import proofs.«01_k».proof.Proof.Gen.ReferenceIdeal.Run
public import proofs.«01_k».proof.Proof.Route

@[expose] public section

set_option maxRecDepth 16384

noncomputable section

namespace Cert.ReferenceIdeal.Moe

open Cert.ReferenceIdeal Cert.ReferenceIdeal.Gen Cert.Moe
open Idealize.ShloMosaic Idealize.ShloMosaic.TcCoe

variable (x : FVec Ideal S4096x512 .f32) (rw : FVec Ideal S512x16 .f32) (ri : IVec S4096x1 32)
  (ew : FVec Ideal S16x512x1024 .f32) (sw : FVec Ideal S512x1024 .f32)

/-- The router scores, -/
def scores : FVec Ideal S4096x16 .f32 := Host.dotGeneral dot_S4096x512_S512x16_S4096x16_1_0_0_1_n_n none x rw
/-- their exponentials against the row's maximum, -/
def exps : FVec Ideal S4096x16 .f32 := Host.exp (subf (scores x rw)
  (broadcastInDim S4096x16 ![0, 1] bcast_S4096x1_S4096x16_0_1 (broadcastInDim S4096x1 ![0] bcast_S4096_S4096x1_0
    (Host.reduce FloatOps.maximumf (scores x rw) (constant S_ .f32 0xFF800000#32) reducesTo_S4096x16_S4096_d1 h_S_))))
/-- the probabilities, -/
def probs : FVec Ideal S4096x16 .f32 := Host.divf (exps x rw)
  (broadcastInDim S4096x16 ![0, 1] bcast_S4096x1_S4096x16_0_1 (broadcastInDim S4096x1 ![0] bcast_S4096_S4096x1_0
    (Host.reduceAdd (exps x rw) (constant S_ .f32 0x00000000#32) reducesTo_S4096x16_S4096_d1 h_S_)))
/-- those of the routes, -/
def chosen : FVec Ideal S4096x16 .f32 :=
  select (cmpi .eq (broadcastInDim S4096x16 ![0, 1] bcast_S4096x1_S4096x16_0_1 ri)
    (broadcastInDim S4096x16 ![0, 1] bcast_S1x16_S4096x16_0_1 (broadcastInDim S1x16 ![1] bcast_S16_S1x16_1 (iotaInDim S16 32 0))))
    (probs x rw) (broadcastInDim S4096x16 ![] bcast_S_S4096x16 (constant S_ .f32 0x00000000#32))
/-- every expert's product, -/
def each : FVec Ideal S4096x16x1024 .f32 := Host.dotGeneral dot_S4096x512_S16x512x1024_S4096x16x1024_1_1_0_02_n_n none x ew
/-- the result. -/
def result : FVec Ideal S4096x1024 .f32 :=
  addf (Host.dotGeneral dot_S4096x512_S512x1024_S4096x1024_1_0_0_1_n_n none x sw)
    (Host.reduceAdd (mulf (broadcastInDim S4096x16x1024 ![0, 1, 2] bcast_S4096x16x1_S4096x16x1024_0_1_2
      (broadcastInDim S4096x16x1 ![0, 1] bcast_S4096x16_S4096x16x1_0_1 (chosen x rw ri))) (each x ew))
      (constant S_ .f32 0x00000000#32) reducesTo_S4096x16x1024_S4096x1024_d1 h_S_)

/-- The score of token `n` for expert `e`, -/
def score (n : Fin 4096) (e : Fin 16) : EReal := ∑ d : Fin 512, x (ix2 n d) * rw (ix2 d e)
/-- the largest of a token, -/
def top (n : Fin 4096) : EReal := Finset.univ.fold max (Ideal.ofBits .f32 4286578688#32) (score x rw n)
/-- the probability. -/
def prob (n : Fin 4096) (e : Fin 16) : EReal :=
  Ideal.div (Ideal.exp (score x rw n e - top x rw n)) (∑ e', Ideal.exp (score x rw n e' - top x rw n))

theorem scores_apply (n : Fin 4096) (e : Fin 16) : scores x rw (ix2 n e) = score x rw n e := by
  pointwise [scores]
  rfl
theorem exps_apply (n : Fin 4096) (e : Fin 16) : exps x rw (ix2 n e) = Ideal.exp (score x rw n e - top x rw n) := by
  pointwise [exps]
  simp only [scores_apply]
  rfl
theorem probs_apply (n : Fin 4096) (e : Fin 16) : probs x rw (ix2 n e) = prob x rw n e := by
  pointwise [probs]
  simp only [exps_apply]
  rfl
theorem chosen_apply (n : Fin 4096) (e : Fin 16) :
    chosen x rw ri (ix2 n e) = if ri (ix2 n 0) = BitVec.ofNat 32 e.val then prob x rw n e else 0 := by
  pointwise [chosen]
  rw [probs_apply, cmpi_eq]
  by_cases hr : ri (ix2 n 0) = BitVec.ofNat 32 e.val <;> simp [hr, Scalar.select]
theorem each_apply (n : Fin 4096) (e : Fin 16) (h : Fin 1024) : each x ew (ix3 n e h) = ∑ d : Fin 512, x (ix2 n d) * ew (ix3 e d h) := by
  pointwise [each]

/-- The result at token `n` and column `h`. -/
theorem result_apply (n : Fin 4096) (h : Fin 1024) :
    result x rw ri ew sw (ix2 n h) = (∑ d : Fin 512, x (ix2 n d) * sw (ix2 d h))
      + ∑ e : Fin 16, (if ri (ix2 n 0) = BitVec.ofNat 32 e.val then prob x rw n e else 0) * ∑ d : Fin 512, x (ix2 n d) * ew (ix3 e d h) := by
  pointwise [result]
  simp only [chosen_apply, each_apply]

/-- Every run of the reference ends with its result at that value and its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Moe

end
-- ==== Proof.Routable.lean ====
/-
# Routable: what the precondition says

Read over the extended reals: every router score of a device's tokens is a real number, and each device is the
destination of at most 384 of them.
-/
module

public import proofs.«01_k».proof.Proof.Gen.Pre_routable_KernelIdeal
public import proofs.«01_k».proof.Proof.Route
public import Idealize.ShloMosaic.Lib.ReduceAll
public import Idealize.ShloMosaic.Lib.IndicatorCount

@[expose] public section

set_option maxRecDepth 16384

noncomputable section

namespace Cert.Moe.Routable

open Cert.Pre_routable_KernelIdeal Cert.Pre_routable_KernelIdeal.Gen
open Idealize.ShloMosaic

variable (x : FVec Ideal S1024x512 .f32) (rw : FVec Ideal S512x16 .f32) (ri : IVec S1024x1 32)

/-- The bit of `every score is finite`. -/
def finite : IVec S_ 1 :=
  Host.reduce IntOp.andi (cmpf .olt (Host.absf (Host.dotGeneral dot_S1024x512_S512x16_S1024x16_1_0_0_1_n_n none x rw))
    (broadcastInDim S1024x16 ![] bcast_S_S1024x16 (constant (F := Ideal) S_ .f32 0x7F800000#32))) (constantI S_ 1 1#1) reducesTo_S1024x16_S_d0_1 h_S_

/-- The bit of a route lying from `lo` up to `hi`, per token, -/
def between (lo hi : BitVec 32) : IVec S1024x1 1 :=
  andi (cmpi .sge ri (broadcastInDim S1024x1 ![] bcast_S_S1024x1 (constantI S_ 32 lo)))
    (cmpi .slt ri (broadcastInDim S1024x1 ![] bcast_S_S1024x1 (constantI S_ 32 hi)))
/-- and how many tokens it is set for. -/
def count (lo hi : BitVec 32) : IVec S_ 32 :=
  Host.reduce IntOp.addi (extui 32 (between ri lo hi) natLt_1_32) (constantI S_ 32 0#32) reducesTo_S1024x1_S_d0_1 h_S_

/-- The bit of there being at most 384 of them. -/
def few (lo hi : BitVec 32) : IVec S_ 1 := cmpi .sle (count ri lo hi) (constantI S_ 32 384#32)

theorem fn_eq (ew : FVec Ideal S4x512x1024 .f32) (sw : FVec Ideal S512x1024 .f32) :
    fn (F := Ideal) x rw ri ew sw
      = andi (andi (andi (andi (finite x rw) (few ri 0#32 4#32)) (few ri 4#32 8#32)) (few ri 8#32 12#32)) (few ri 12#32 16#32) := rfl

instance : Subsingleton S_.Idx := ⟨fun a b => funext fun i => i.elim0⟩

/-- A set bit of `finite`: every score is a real. -/
theorem finite_reads (j : S_.Idx) (h : finite x rw j = 1#1) (n : Fin 1024) (e : Fin 16) :
    (∑ d : Fin 512, x (ix2 n d) * rw (ix2 d e)) ≠ (⊥ : EReal) ∧ (∑ d : Fin 512, x (ix2 n d) * rw (ix2 d e)) ≠ (⊤ : EReal) := by
  have h1 := Host.reduce_andi_all _ _ _ _ j h (ix2 n e)
  revert h1
  pointwise []
  generalize (∑ d : Fin 512, x (ix2 n d) * rw (ix2 d e)) = a
  intro h1
  have hi : Ideal.ofBits .f32 2139095040#32 = (⊤ : EReal) := by simp [Ideal.ofBits, Ideal.ieee]
  rw [hi] at h1
  have h2 : max a (-a) < (⊤ : EReal) := by
    by_contra hn
    rw [show FloatOps.absf (F := Ideal) (φ := .f32) a = max a (-a) from rfl, decide_eq_false hn] at h1
    exact absurd h1 (by decide)
  constructor
  · rintro rfl; simp at h2
  · rintro rfl; simp at h2

/-- The count is the number of the tokens routed to device `p`, when `lo` and `hi` bound its experts. -/
theorem count_eq (p : ℕ) (lo hi : BitVec 32) (hlo : lo.toInt = 4 * (p : ℤ)) (hhi : hi.toInt = 4 * (p : ℤ) + 4) (j : S_.Idx) :
    count ri lo hi j = BitVec.ofNat 32 (Finset.univ.filter fun n : Fin 1024 => To p (ri (ix2 n 0))).card := by
  unfold count
  rw [Host.reduce_eq_fold, Finset.filter_true_of_mem fun i _ => Subsingleton.elim _ _]
  refine (IndicatorCount.fold_addi_setWidth_eq_card (between ri lo hi) Finset.univ).trans (congrArg _ ?_)
  have hb : ∀ i, between ri lo hi i = 1#1 ↔ To p (ri i) := fun i => by
    rw [show between ri lo hi i = IntOp.andi (IntOp.cmpi .sge (ri i) lo) (IntOp.cmpi .slt (ri i) hi) from rfl, IntOp.andi_eq_one,
      cmpi_sge, cmpi_slt, hlo, hhi, bit_one, bit_one]
    rfl
  have hx : ∀ i : S1024x1.Idx, ix2 (n0 := 1024) (n1 := 1) (i 0) 0 = i := fun i =>
    Eq.trans (congrArg (ix2 (n0 := 1024) (n1 := 1) (i 0)) (Subsingleton.elim (α := Fin 1) _ _)) (ix2_eta i)
  refine Finset.card_nbij' (fun i => i 0) (fun n => ix2 n 0) ?_ ?_ ?_ ?_
  · intro i h
    simp only [Finset.coe_filter, Finset.mem_univ, true_and, Set.mem_setOf_eq, hb] at h
    refine Finset.mem_coe.2 (Finset.mem_filter.2 ⟨Finset.mem_univ _, ?_⟩)
    show To p (ri (ix2 (n0 := 1024) (n1 := 1) (i 0) 0))
    rw [hx]; exact h
  · intro n h
    simp only [Finset.coe_filter, Finset.mem_univ, true_and, Set.mem_setOf_eq, hb] at h ⊢
    exact h
  · intro i _; exact hx i
  · intro n _; rfl

/-- A set bit of `few`: at most 384 tokens are routed to device `p`. -/
theorem few_reads (p : ℕ) (lo hi : BitVec 32) (hlo : lo.toInt = 4 * (p : ℤ)) (hhi : hi.toInt = 4 * (p : ℤ) + 4) (j : S_.Idx)
    (h : few ri lo hi j = 1#1) : (Finset.univ.filter fun n : Fin 1024 => To p (ri (ix2 n 0))).card ≤ 384 := by
  have h1 : IntOp.cmpi .sle (count ri lo hi j) 384#32 = 1#1 := h
  have hc : (Finset.univ.filter fun n : Fin 1024 => To p (ri (ix2 n 0))).card ≤ 1024 := (Finset.card_le_univ _).trans (by simp)
  rw [count_eq ri p lo hi hlo hhi, cmpi_sle, toInt_small _ (by omega), show (384#32 : BitVec 32).toInt = 384 by decide] at h1
  by_contra hn
  rw [decide_eq_false (by omega)] at h1
  exact absurd h1 (by decide)

/-- The precondition: real scores, and at most 384 tokens for each device. -/
theorem reads (ew : FVec Ideal S4x512x1024 .f32) (sw : FVec Ideal S512x1024 .f32) (h : fn (F := Ideal) x rw ri ew sw = fun _ => 1#1) :
    (∀ (n : Fin 1024) (e : Fin 16), (∑ d : Fin 512, x (ix2 n d) * rw (ix2 d e)) ≠ (⊥ : EReal) ∧ (∑ d : Fin 512, x (ix2 n d) * rw (ix2 d e)) ≠ (⊤ : EReal))
      ∧ ∀ p : Fin 4, (Finset.univ.filter fun n : Fin 1024 => To p.val (ri (ix2 n 0))).card ≤ 384 := by
  rw [fn_eq] at h
  have h0 := congrFun h ix0
  obtain ⟨h123, h3⟩ := (IntOp.andi_eq_one).1 h0
  obtain ⟨h12, h2⟩ := (IntOp.andi_eq_one).1 h123
  obtain ⟨h1', h1⟩ := (IntOp.andi_eq_one).1 h12
  obtain ⟨hf, h00⟩ := (IntOp.andi_eq_one).1 h1'
  refine ⟨finite_reads x rw _ hf, fun p => ?_⟩
  fin_cases p
  · exact few_reads ri 0 _ _ (by decide) (by decide) _ h00
  · exact few_reads ri 1 _ _ (by decide) (by decide) _ h1
  · exact few_reads ri 2 _ _ (by decide) (by decide) _ h2
  · exact few_reads ri 3 _ _ (by decide) (by decide) _ h3

end Cert.Moe.Routable

end
-- ==== Proof.Algebraic.lean ====
/-
# Algebraic: the kernel computes the reference

Over the extended reals, from blocks of one set of arguments that are routable: every device's result block is its block
of the reference's result.
-/
module

public import proofs.«01_k».proof.Defs
public import proofs.«01_k».proof.Proof.KernelIdeal.Final
public import proofs.«01_k».proof.Proof.KernelIdeal.Combine
public import proofs.«01_k».proof.Proof.ReferenceIdeal.Value
public import proofs.«01_k».proof.Proof.Routable

@[expose] public section

set_option maxRecDepth 16384

noncomputable section

namespace Cert.Proof

open Idealize.ShloMosaic Idealize.ShloMosaic.TcCoe Idealize.SL.Sem
open Cert.KernelIdeal.Moe Cert.Moe

/-- Token `n` of device `c` among all tokens, -/
def row (c : Fin 4) (n : Fin 1024) : Fin 4096 := ⟨c.val * 1024 + n.val, by omega⟩
/-- expert `j` of device `c` among all experts. -/
def nth (c : Fin 4) (j : Fin 4) : Fin 16 := ⟨c.val * 4 + j.val, by omega⟩

/-- A block along the rows, read at its own coordinates, -/
theorem block_row {α : Type} {W : ℕ} (h : Layout.Tiles ⟨2, ![1024, W]⟩ ⟨2, ![4096, W]⟩ 0 4) (v : (⟨2, ![4096, W]⟩ : Shape).Idx → α)
    (c : Fin 4) (n : Fin 1024) (l : Fin W) :
    Layout.block ⟨2, ![1024, W]⟩ ⟨2, ![4096, W]⟩ 0 4 c v h (ix2 n l) = v (ix2 (row c n) l) := by
  refine congrArg v (funext fun b => Fin.ext ?_)
  match b with
  | ⟨0, _⟩ => rfl
  | ⟨1, _⟩ => rfl

/-- and a block of experts likewise. -/
theorem block_nth {α : Type} {A B : ℕ} (h : Layout.Tiles ⟨3, ![4, A, B]⟩ ⟨3, ![16, A, B]⟩ 0 4) (v : (⟨3, ![16, A, B]⟩ : Shape).Idx → α)
    (c j : Fin 4) (d : Fin A) (l : Fin B) :
    Layout.block ⟨3, ![4, A, B]⟩ ⟨3, ![16, A, B]⟩ 0 4 c v h (ix3 j d l) = v (ix3 (nth c j) d l) := by
  refine congrArg v (funext fun b => Fin.ext ?_)
  match b with
  | ⟨0, _⟩ => rfl
  | ⟨1, _⟩ => rfl
  | ⟨2, _⟩ => rfl

/-- The devices' blocks are cut from one set of arguments, entry by entry. -/
structure Cuts (I : Ins Ideal) (x : FVec Ideal ReferenceIdeal.S4096x512 .f32) (rw : FVec Ideal ReferenceIdeal.S512x16 .f32)
    (ri : IVec ReferenceIdeal.S4096x1 32) (ew : FVec Ideal ReferenceIdeal.S16x512x1024 .f32) (sw : FVec Ideal ReferenceIdeal.S512x1024 .f32) : Prop where
  hx : ∀ (c : Fin 4) (n : Fin 1024) (d : Fin 512), I.x c (ix2 n d) = x (ix2 (row c n) d)
  hrw : ∀ (c : Fin 4) (d : Fin 512) (e : Fin 16), I.rw c (ix2 d e) = rw (ix2 d e)
  hri : ∀ (c : Fin 4) (n : Fin 1024), I.ri c (ix2 n 0) = ri (ix2 (row c n) 0)
  hew : ∀ (c j : Fin 4) (d : Fin 512) (h : Fin 1024), I.ew c (ix3 j d h) = ew (ix3 (nth c j) d h)
  hsw : ∀ (c : Fin 4) (d : Fin 512) (h : Fin 1024), I.sw c (ix2 d h) = sw (ix2 d h)

variable {I : Ins Ideal} {x : FVec Ideal ReferenceIdeal.S4096x512 .f32} {rw' : FVec Ideal ReferenceIdeal.S512x16 .f32}
    {ri : IVec ReferenceIdeal.S4096x1 32} {ew : FVec Ideal ReferenceIdeal.S16x512x1024 .f32} {sw : FVec Ideal ReferenceIdeal.S512x1024 .f32}

theorem wt_apply (I : Ins Ideal) (j : Fin 4) (c : Fin 4) (d : Fin 512) (h : Fin 1024) : wt I j c (ix3 0 d h) = I.ew c (ix3 j d h) := by
  unfold wt
  refine congrArg (I.ew c) (funext fun b => Fin.ext ?_)
  match b with
  | ⟨0, _⟩ => rfl
  | ⟨1, _⟩ => exact (Nat.zero_add _).trans (Nat.one_mul _)
  | ⟨2, _⟩ => exact (Nat.zero_add _).trans (Nat.one_mul _)

theorem prob_eq (hc : Cuts I x rw' ri ew sw) (c : Fin 4) (n : Fin 1024) (e : Fin 16) :
    KernelIdeal.Moe.prob I c n e = ReferenceIdeal.Moe.prob x rw' (row c n) e := by
  have hs : KernelIdeal.Moe.score I c n = ReferenceIdeal.Moe.score x rw' (row c n) := funext fun e => by
    unfold KernelIdeal.Moe.score ReferenceIdeal.Moe.score
    exact Finset.sum_congr rfl fun d _ => by rw [hc.hx, hc.hrw]
  unfold KernelIdeal.Moe.prob ReferenceIdeal.Moe.prob KernelIdeal.Moe.top ReferenceIdeal.Moe.top
  rw [hs]

/-- The gate of a token routed to expert `e` is the probability of `e`. -/
theorem gate_eq (I : Ins Ideal) (c : Fin 4) (n : Fin 1024) (e : Fin 16) (h : rt I c n = BitVec.ofNat 32 e.val) :
    gate I c n = KernelIdeal.Moe.prob I c n e := by
  unfold gate
  rw [Finset.sum_eq_single e, if_pos h, mul_one]
  · intro b _ hb
    rw [if_neg, mul_zero]
    intro h'
    refine hb (Fin.ext ?_)
    have := (word_eq b.val b.isLt _).1 h'
    have := (word_eq e.val e.isLt _).1 h
    omega
  · simp

/-- One expert's share of a token is the reference's summand for that expert. -/
theorem share_eq (hc : Cuts I x rw' ri ew sw) (c e j : Fin 4) (n h : Fin 1024)
    (hs : ∀ e : Fin 16, KernelIdeal.Moe.score I c n e ≠ ⊥ ∧ KernelIdeal.Moe.score I c n e ≠ ⊤) :
    share I c e j n h = (if ri (ix2 (row c n) 0) = BitVec.ofNat 32 (nth e j).val then ReferenceIdeal.Moe.prob x rw' (row c n) (nth e j) else 0)
      * ∑ d : Fin 512, x (ix2 (row c n) d) * ew (ix3 (nth e j) d h) := by
  have hri : ri (ix2 (row c n) 0) = rt I c n := (hc.hri c n).symm
  have hw : (rt I c n).toInt = 4 * (e.val : ℤ) + j.val ↔ rt I c n = BitVec.ofNat 32 (nth e j).val := by
    rw [word_eq _ (nth e j).isLt]; simp only [nth]; push_cast; constructor <;> intro h <;> omega
  unfold share
  simp only [hri, hw]
  by_cases hr : rt I c n = BitVec.ofNat 32 (nth e j).val
  · simp only [hr, if_true]
    have hM : KernelIdeal.Moe.top I c n ≠ ⊥ ∧ KernelIdeal.Moe.top I c n ≠ ⊤ := by
      unfold KernelIdeal.Moe.top
      rw [show Ideal.ofBits .f32 4286578688#32 = (⊥ : EReal) by simp [Ideal.ofBits, Ideal.ieee]]
      exact max_real _ hs
    have hp : 0 ≤ KernelIdeal.Moe.prob I c n (nth e j) ∧ KernelIdeal.Moe.prob I c n (nth e j) ≠ ⊤ := prob_real (KernelIdeal.Moe.score I c n) hs _ hM (nth e j)
    rw [← prob_eq hc]
    rw [mul_sum_of_real _ _ hp.1 hp.2]
    refine Finset.sum_congr rfl fun d _ => ?_
    rw [gate_eq I c n _ hr, mul_assoc, wt_apply, hc.hx, hc.hew]
  · simp only [hr, if_false, zero_mul, Finset.sum_const_zero]

/-- Device `c`'s result at token `n` is the reference's at that token. -/
theorem value_eq (hc : Cuts I x rw' ri ew sw) (hf : Fits I)
    (hs : ∀ (c : Fin 4) (n : Fin 1024) (e : Fin 16), KernelIdeal.Moe.score I c n e ≠ ⊥ ∧ KernelIdeal.Moe.score I c n e ≠ ⊤)
    (c : Fin 4) (n h : Fin 1024) : out3 I c (ix2 n h) = ReferenceIdeal.Moe.result x rw' ri ew sw (ix2 (row c n) h) := by
  rw [out_apply I hf, ReferenceIdeal.Moe.result_apply]
  congr 1
  · unfold shared
    exact Finset.sum_congr rfl fun d _ => by rw [hc.hx, hc.hsw]
  · rw [← Equiv.sum_comp (finProdFinEquiv (m := 4) (n := 4)), Fintype.sum_prod_type]
    refine Finset.sum_congr rfl fun e _ => Finset.sum_congr rfl fun j _ => ?_
    rw [share_eq hc c e j n h (hs c n), show (finProdFinEquiv (m := 4) (n := 4) (e, j) : Fin 16) = nth e j from
      Fin.ext (by simp [finProdFinEquiv, nth]; omega)]

/-- Routable blocks fit the kernel's buffers, and their scores are finite. -/
theorem fits_of_routable (I : Ins Ideal)
    (h : ∀ c : Fin 4, Pre_routable_KernelIdeal.fn (F := Ideal) (I.x c) (I.rw c) (I.ri c) (I.ew c) (I.sw c) = fun _ => 1#1) :
    Fits I ∧ ∀ (c : Fin 4) (n : Fin 1024) (e : Fin 16), KernelIdeal.Moe.score I c n e ≠ ⊥ ∧ KernelIdeal.Moe.score I c n e ≠ ⊤ := by
  refine ⟨fun c q => ?_, fun c n e => ?_⟩
  · exact (Routable.reads _ _ _ _ _ (h c)).2 ⟨(c.val + q.val) % 4, Nat.mod_lt _ (by decide)⟩
  · exact (Routable.reads _ _ _ _ _ (h c)).1 n e

/-- The kernel's claim of value: on routable arguments each device ends with its block of the reference's result. -/
theorem algebraic : Cert.algebraic_KernelIdeal_ReferenceIdeal_pre_routable_KernelIdeal := by
  intro m g m' g' hpre hargs
  refine ⟨ReferenceIdeal.Moe.result (m' ((0 : Dev ReferenceIdeal.nD).tc.loc ReferenceIdeal.main_arg0))
      (m' ((0 : Dev ReferenceIdeal.nD).tc.loc ReferenceIdeal.main_arg1))
      (m' ((0 : Dev ReferenceIdeal.nD).tc.loc ReferenceIdeal.main_arg2))
      (m' ((0 : Dev ReferenceIdeal.nD).tc.loc ReferenceIdeal.main_arg3))
      (m' ((0 : Dev ReferenceIdeal.nD).tc.loc ReferenceIdeal.main_arg4)), ?_, ?_⟩
  rotate_left
  · exact (θ_run Cert.ReferenceIdeal.defs _ _).mono (fun r h => h 0) (Cert.ReferenceIdeal.Moe.run_value m' g')
  · refine (θ_run Cert.KernelIdeal.defs _ _).mono (fun r h c => ⟨(h.1 c).2.trans ?_, (h.1 c).1⟩) (run_final (F := Ideal) m g)
    have hc : Cuts (ins m) (m' ((0 : Dev ReferenceIdeal.nD).tc.loc ReferenceIdeal.main_arg0))
      (m' ((0 : Dev ReferenceIdeal.nD).tc.loc ReferenceIdeal.main_arg1))
      (m' ((0 : Dev ReferenceIdeal.nD).tc.loc ReferenceIdeal.main_arg2))
      (m' ((0 : Dev ReferenceIdeal.nD).tc.loc ReferenceIdeal.main_arg3))
      (m' ((0 : Dev ReferenceIdeal.nD).tc.loc ReferenceIdeal.main_arg4)) := {
      hx := fun c n d => (congrFun ((ins_x c m).trans (hargs c).1) _).trans (block_row _ _ c n d)
      hrw := fun c d e => congrFun ((ins_rw c m).trans (hargs c).2.1) _
      hri := fun c n => (congrFun ((ins_ri c m).trans (hargs c).2.2.1) _).trans (block_row _ _ c n 0)
      hew := fun c j d h => (congrFun ((ins_ew c m).trans (hargs c).2.2.2.1) _).trans (block_nth _ _ c j d h)
      hsw := fun c d h => congrFun ((ins_sw c m).trans (hargs c).2.2.2.2) _ }
    have hr := fits_of_routable (ins m) fun c => by rw [ins_x, ins_rw, ins_ri, ins_ew, ins_sw]; exact hpre c
    funext i
    obtain ⟨n, l, rfl⟩ : ∃ (n : Fin 1024) (l : Fin 1024), i = ix2 n l := ⟨i 0, i 1, eq_ix2 i⟩
    exact (value_eq hc hr.1 hr.2 c n l).trans (block_row _ _ c n l).symm

end Cert.Proof

end
-- ==== Proof.lean ====
/-
# The claims about the kernel and the reference
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routable_KernelIdeal
public import proofs.«01_k».proof.Proof.Gen.Pre_routable_ReferenceIdeal
public import proofs.«01_k».proof.Proof.Frames
public import proofs.«01_k».proof.Proof.Algebraic

@[expose] public section

noncomputable section

namespace Cert.Proof

open Idealize.ShloMosaic Idealize.SL.Sem

/-- Every claim holds. -/
theorem claim : Cert.Claim :=
  ⟨Cert.Kernel.Gen.facts, Cert.KernelIdeal.Gen.facts, Cert.ReferenceIdeal.Gen.facts,
    Cert.Pre_routable_KernelIdeal.Gen.facts, Cert.Pre_routable_ReferenceIdeal.Gen.facts,
    frame_kernel, frame_ideal, fun m g _ => frame_ideal m g trivial, frame_reference, fun m g _ => frame_reference m g trivial,
    trivial, algebraic⟩

end Cert.Proof

end
